-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "big" .f32 0x7149F2CA#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x4096x3 : Shape := ⟨3, ![8, 4096, 3]⟩
abbrev S8x1024x3 : Shape := ⟨3, ![8, 1024, 3]⟩
abbrev S8x4096x256 : Shape := ⟨3, ![8, 4096, 256]⟩
abbrev S8x1024x512 : Shape := ⟨3, ![8, 1024, 512]⟩
abbrev S768x512 : Shape := ⟨2, ![768, 512]⟩
abbrev S512 : Shape := ⟨1, ![512]⟩
abbrev S512x512 : Shape := ⟨2, ![512, 512]⟩
abbrev S_ : Shape := ⟨0, ![]⟩

class Facts : Prop where
  slices_S768x512_S512x512_0_0 : S768x512.Slices ![0, 0] S512x512
  bcast_S_S8x4096x3 : S_.BroadcastsInDim S8x4096x3 (![] : Fin 0 → Fin S8x4096x3.rank)
  bcast_S_S8x1024x3 : S_.BroadcastsInDim S8x1024x3 (![] : Fin 0 → Fin S8x1024x3.rank)
  bcast_S_S512x512 : S_.BroadcastsInDim S512x512 (![] : Fin 0 → Fin S512x512.rank)
  bcast_S_S512 : S_.BroadcastsInDim S512 (![] : Fin 0 → Fin S512.rank)

variable [Facts]

def fn {F : FTy → Type} [FloatOps F] (main_arg0 : FVec F S8x4096x3 .f32) (main_arg1 : FVec F S8x1024x3 .f32) (main_arg2 : FVec F S8x4096x256 .f32) (main_arg3 : FVec F S8x1024x512 .f32) (main_arg4 : FVec F S768x512 .f32) (main_arg5 : FVec F S512 .f32) (main_arg6 : FVec F S512 .f32) (main_arg7 : FVec F S512x512 .f32) (main_arg8 : FVec F S512 .f32) (main_arg9 : FVec F S512 .f32) : IVec S8x4096x3 1 × IVec S8x1024x3 1 × IVec S512x512 1 × IVec S512 1 × IVec S512 1 :=
  let main_v0 : FVec F S512x512 .f32 := (extractStridedSlice S512x512 ![0, 0] · slices_S768x512_S512x512_0_0) main_arg4
  let main_v1 : FVec F S8x4096x3 .f32 := Host.absf main_arg0
  let main_cst : FVec F S_ .f32 := constant S_ .f32 0x7F800000#32
  let main_v2 : FVec F S8x4096x3 .f32 := broadcastInDim S8x4096x3 ![] bcast_S_S8x4096x3 main_cst
  let main_v3 : IVec S8x4096x3 1 := cmpf .olt main_v1 main_v2
  let main_v4 : FVec F S8x1024x3 .f32 := Host.absf main_arg1
  let main_cst_0 : FVec F S_ .f32 := constant S_ .f32 0x7F800000#32
  let main_v5 : FVec F S8x1024x3 .f32 := broadcastInDim S8x1024x3 ![] bcast_S_S8x1024x3 main_cst_0
  let main_v6 : IVec S8x1024x3 1 := cmpf .olt main_v4 main_v5
  let main_v7 : FVec F S512x512 .f32 := Host.absf main_v0
  let main_cst_1 : FVec F S_ .f32 := constant S_ .f32 0x7F800000#32
  let main_v8 : FVec F S512x512 .f32 := broadcastInDim S512x512 ![] bcast_S_S512x512 main_cst_1
  let main_v9 : IVec S512x512 1 := cmpf .olt main_v7 main_v8
  let main_v10 : FVec F S512 .f32 := Host.absf main_arg5
  let main_cst_2 : FVec F S_ .f32 := constant S_ .f32 0x7F800000#32
  let main_v11 : FVec F S512 .f32 := broadcastInDim S512 ![] bcast_S_S512 main_cst_2
  let main_v12 : IVec S512 1 := cmpf .olt main_v10 main_v11
  let main_v13 : FVec F S512 .f32 := Host.absf main_arg8
  let main_cst_3 : FVec F S_ .f32 := constant S_ .f32 0x7F800000#32
  let main_v14 : FVec F S512 .f32 := broadcastInDim S512 ![] bcast_S_S512 main_cst_3
  let main_v15 : IVec S512 1 := cmpf .olt main_v13 main_v14
  (main_v3, main_v6, main_v9, main_v12, main_v15)
-- ==== Kernel.lean ====
abbrev S8x4096x3 : Shape := ⟨3, ![8, 4096, 3]⟩
abbrev S8x1024x3 : Shape := ⟨3, ![8, 1024, 3]⟩
abbrev S8x4096x256 : Shape := ⟨3, ![8, 4096, 256]⟩
abbrev S8x1024x512 : Shape := ⟨3, ![8, 1024, 512]⟩
abbrev S768x512 : Shape := ⟨2, ![768, 512]⟩
abbrev S512 : Shape := ⟨1, ![512]⟩
abbrev S512x512 : Shape := ⟨2, ![512, 512]⟩
abbrev S8x3x4096 : Shape := ⟨3, ![8, 3, 4096]⟩
abbrev S8x3x1024 : Shape := ⟨3, ![8, 3, 1024]⟩
abbrev S1x3x512 : Shape := ⟨3, ![1, 3, 512]⟩
abbrev S1x3x1024 : Shape := ⟨3, ![1, 3, 1024]⟩
abbrev S3x512 : Shape := ⟨2, ![3, 512]⟩
abbrev S3x1024 : Shape := ⟨2, ![3, 1024]⟩
abbrev S1024 : Shape := ⟨1, ![1024]⟩
abbrev S512x1024 : Shape := ⟨2, ![512, 1024]⟩
abbrev S512x1 : Shape := ⟨2, ![512, 1]⟩
abbrev S1x1024 : Shape := ⟨2, ![1, 1024]⟩
abbrev S64x128 : Shape := ⟨2, ![64, 128]⟩
abbrev S64x1024 : Shape := ⟨2, ![64, 1024]⟩
abbrev S64x384 : Shape := ⟨2, ![64, 384]⟩
abbrev S64 : Shape := ⟨1, ![64]⟩
abbrev S64x1 : Shape := ⟨2, ![64, 1]⟩
abbrev S1x1x64 : Shape := ⟨3, ![1, 1, 64]⟩
abbrev S1x64 : Shape := ⟨2, ![1, 64]⟩
abbrev S3x64 : Shape := ⟨2, ![3, 64]⟩
abbrev S1x3x64 : Shape := ⟨3, ![1, 3, 64]⟩
abbrev S256x512 : Shape := ⟨2, ![256, 512]⟩
abbrev S1x1024x512 : Shape := ⟨3, ![1, 1024, 512]⟩
abbrev S1024x512 : Shape := ⟨2, ![1024, 512]⟩
abbrev S8x4096x512 : Shape := ⟨3, ![8, 4096, 512]⟩
abbrev S1x512 : Shape := ⟨2, ![1, 512]⟩
abbrev S1x512x256 : Shape := ⟨3, ![1, 512, 256]⟩
abbrev S1x512x512 : Shape := ⟨3, ![1, 512, 512]⟩
abbrev S512x256 : Shape := ⟨2, ![512, 256]⟩
abbrev S_ : Shape := ⟨0, ![]⟩

abbrev nBuf : Space → Nat
  | .hbm => 58
  | .vmem => 41
  | .smem => 0
  | _ => 0

abbrev bufTy : (tb : Table) → Fin (tcTables nBuf tb) → BufTy
  | .hbm, ⟨0, _⟩ => ⟨S8x4096x3, .f32⟩
  | .hbm, ⟨1, _⟩ => ⟨S8x1024x3, .f32⟩
  | .hbm, ⟨2, _⟩ => ⟨S8x4096x256, .f32⟩
  | .hbm, ⟨3, _⟩ => ⟨S8x1024x512, .f32⟩
  | .hbm, ⟨4, _⟩ => ⟨S768x512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S8x3x4096, .f32⟩
  | .hbm, ⟨11, _⟩ => ⟨S8x3x1024, .f32⟩
  | .hbm, ⟨12, _⟩ => ⟨S8x3x4096, .i32⟩
  | .hbm, ⟨13, _⟩ => ⟨S8x3x4096, .f32⟩
  | .hbm, ⟨14, _⟩ => ⟨S512x512, .f32⟩
  | .hbm, ⟨15, _⟩ => ⟨S256x512, .f32⟩
  | .hbm, ⟨16, _⟩ => ⟨S8x1024x512, .f32⟩
  | .hbm, ⟨17, _⟩ => ⟨S8x4096x512, .f32⟩
  | .hbm, ⟨18, _⟩ => ⟨S1x512, .f32⟩
  | .hbm, ⟨19, _⟩ => ⟨S1x512, .f32⟩
  | .hbm, ⟨20, _⟩ => ⟨S_, .f32⟩
  | .hbm, ⟨21, _⟩ => ⟨S1x512, .f32⟩
  | .hbm, ⟨22, _⟩ => ⟨S1x512, .f32⟩
  | .hbm, ⟨23, _⟩ => ⟨S_, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S_, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S1x512, .f32⟩
  | .hbm, ⟨37, _⟩ => ⟨S8x4096x512, .f32⟩
  | .hbm, ⟨38, _⟩ => ⟨S1x512, .f32⟩
  | .hbm, ⟨39, _⟩ => ⟨S1x512, .f32⟩
  | .hbm, ⟨40, _⟩ => ⟨S_, .f32⟩
  | .hbm, ⟨41, _⟩ => ⟨S1x512, .f32⟩
  | .hbm, ⟨42, _⟩ => ⟨S1x512, .f32⟩
  | .hbm, ⟨43, _⟩ => ⟨S_, .f32⟩
  | .hbm, ⟨44, _⟩ => ⟨S1x512, .f32⟩
  | .hbm, ⟨45, _⟩ => ⟨S1x512, .f32⟩
  | .hbm, ⟨46, _⟩ => ⟨S1x512, .f32⟩
  | .hbm, ⟨47, _⟩ => ⟨S1x512, .f32⟩
  | .hbm, ⟨48, _⟩ => ⟨S1x512, .f32⟩
  | .hbm, ⟨49, _⟩ => ⟨S_, .f32⟩
  | .hbm, ⟨50, _⟩ => ⟨S1x512, .f32⟩
  | .hbm, ⟨51, _⟩ => ⟨S1x512, .f32⟩
  | .hbm, ⟨52, _⟩ => ⟨S1x512, .f32⟩
  | .hbm, ⟨53, _⟩ => ⟨S1x512, .f32⟩
  | .hbm, ⟨54, _⟩ => ⟨S1x512, .f32⟩
  | .hbm, ⟨55, _⟩ => ⟨S1x512, .f32⟩
  | .hbm, ⟨56, _⟩ => ⟨S1x512, .f32⟩
  | .hbm, ⟨57, _⟩ => ⟨S8x4096x512, .f32⟩
  | .local _ .vmem, ⟨0, _⟩ => ⟨S1x3x512, .f32⟩
  | .local _ .vmem, ⟨1, _⟩ => ⟨S1x3x512, .f32⟩
  | .local _ .vmem, ⟨2, _⟩ => ⟨S1x3x1024, .f32⟩
  | .local _ .vmem, ⟨3, _⟩ => ⟨S1x3x1024, .f32⟩
  | .local _ .vmem, ⟨4, _⟩ => ⟨S1x3x512, .i32⟩
  | .local _ .vmem, ⟨5, _⟩ => ⟨S1x3x512, .i32⟩
  | .local _ .vmem, ⟨6, _⟩ => ⟨S1x3x512, .f32⟩
  | .local _ .vmem, ⟨7, _⟩ => ⟨S1x3x512, .f32⟩
  | .local _ .vmem, ⟨8, _⟩ => ⟨S1x1024x512, .f32⟩
  | .local _ .vmem, ⟨9, _⟩ => ⟨S1x1024x512, .f32⟩
  | .local _ .vmem, ⟨10, _⟩ => ⟨S512x512, .f32⟩
  | .local _ .vmem, ⟨11, _⟩ => ⟨S1x1024x512, .f32⟩
  | .local _ .vmem, ⟨12, _⟩ => ⟨S1x1024x512, .f32⟩
  | .local _ .vmem, ⟨13, _⟩ => ⟨S1x3x512, .i32⟩
  | .local _ .vmem, ⟨14, _⟩ => ⟨S1x3x512, .i32⟩
  | .local _ .vmem, ⟨15, _⟩ => ⟨S1x3x512, .f32⟩
  | .local _ .vmem, ⟨16, _⟩ => ⟨S1x3x512, .f32⟩
  | .local _ .vmem, ⟨17, _⟩ => ⟨S1x1024x512, .f32⟩
  | .local _ .vmem, ⟨18, _⟩ => ⟨S1x1024x512, .f32⟩
  | .local _ .vmem, ⟨19, _⟩ => ⟨S1x512x256, .f32⟩
  | .local _ .vmem, ⟨20, _⟩ => ⟨S1x512x256, .f32⟩
  | .local _ .vmem, ⟨21, _⟩ => ⟨S256x512, .f32⟩
  | .local _ .vmem, ⟨22, _⟩ => ⟨S1x512x512, .f32⟩
  | .local _ .vmem, ⟨23, _⟩ => ⟨S1x512x512, .f32⟩
  | .local _ .vmem, ⟨24, _⟩ => ⟨S1x512, .f32⟩
  | .local _ .vmem, ⟨25, _⟩ => ⟨S1x512, .f32⟩
  | .local _ .vmem, ⟨26, _⟩ => ⟨S1x512x512, .f32⟩
  | .local _ .vmem, ⟨27, _⟩ => ⟨S1x512x512, .f32⟩
  | .local _ .vmem, ⟨28, _⟩ => ⟨S1x512, .f32⟩
  | .local _ .vmem, ⟨29, _⟩ => ⟨S1x512, .f32⟩
  | .local _ .vmem, ⟨30, _⟩ => ⟨S512x512, .f32⟩
  | .local _ .vmem, ⟨31, _⟩ => ⟨S1x512x512, .f32⟩
  | .local _ .vmem, ⟨32, _⟩ => ⟨S1x512x512, .f32⟩
  | .local _ .vmem, ⟨33, _⟩ => ⟨S1x512, .f32⟩
  | .local _ .vmem, ⟨34, _⟩ => ⟨S1x512, .f32⟩
  | .local _ .vmem, ⟨35, _⟩ => ⟨S1x512x512, .f32⟩
  | .local _ .vmem, ⟨36, _⟩ => ⟨S1x512x512, .f32⟩
  | .local _ .vmem, ⟨37, _⟩ => ⟨S1x512, .f32⟩
  | .local _ .vmem, ⟨38, _⟩ => ⟨S1x512, .f32⟩
  | .local _ .vmem, ⟨39, _⟩ => ⟨S1x512x512, .f32⟩
  | .local _ .vmem, ⟨40, _⟩ => ⟨S1x512x512, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21_0 : Ref sig .tc := ⟨.hbm, 37, rfl⟩
abbrev main_v21_1 : Ref sig .tc := ⟨.hbm, 38, rfl⟩
abbrev main_v21_2 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg7_0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg4_1 : Ref sig .tc := ⟨.vmem, 32, rfl⟩
abbrev cc3_stg5_0 : Ref sig .tc := ⟨.vmem, 33, rfl⟩
abbrev cc3_stg6_0 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg3_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem5_0 : DmaSem sig := 22
abbrev cc2_sem5_1 : DmaSem sig := 23
abbrev cc2_sem6_0 : DmaSem sig := 24
abbrev cc2_sem7_0 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem4_1 : DmaSem sig := 32
abbrev cc3_sem5_0 : DmaSem sig := 33
abbrev cc3_sem6_0 : DmaSem sig := 34
abbrev cc4_sem0_0 : DmaSem sig := 35
abbrev cc4_sem0_1 : DmaSem sig := 36
abbrev cc4_sem1_0 : DmaSem sig := 37
abbrev cc4_sem2_0 : DmaSem sig := 38
abbrev cc4_sem3_0 : DmaSem sig := 39
abbrev cc4_sem3_1 : DmaSem sig := 40

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x3x512 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x3x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x512x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S256x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x512x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev grid3 : Pipeline.Grid := ⟨2, ![8, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1x512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S512x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1x512x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 1 → Memref sig .tc .vmem S1x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev grid4 : Pipeline.Grid := ⟨2, ![8, 8], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x512x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S1x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S1x512x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]
-- ==== KernelIdeal.lean ====
variable {F : FTy → Type} [FloatOps F] [Named F]
def κ : String → Option EReal := fun
  | "big" => some ⊤
  | _ => none
-- ==== ReferenceIdeal.lean ====
abbrev S8x4096x3 : Shape := ⟨3, ![8, 4096, 3]⟩
abbrev S8x1024x3 : Shape := ⟨3, ![8, 1024, 3]⟩
abbrev S8x4096x256 : Shape := ⟨3, ![8, 4096, 256]⟩
abbrev S8x1024x512 : Shape := ⟨3, ![8, 1024, 512]⟩
abbrev S768x512 : Shape := ⟨2, ![768, 512]⟩
abbrev S512 : Shape := ⟨1, ![512]⟩
abbrev S512x512 : Shape := ⟨2, ![512, 512]⟩
abbrev S_ : Shape := ⟨0, ![]⟩
abbrev S8x4096 : Shape := ⟨2, ![8, 4096]⟩
abbrev S8x4096x1 : Shape := ⟨3, ![8, 4096, 1]⟩
abbrev S8x1024 : Shape := ⟨2, ![8, 1024]⟩
abbrev S8x1x1024 : Shape := ⟨3, ![8, 1, 1024]⟩
abbrev S8x4096x1024 : Shape := ⟨3, ![8, 4096, 1024]⟩
abbrev S1x8x1x4096x1x1 : Shape := ⟨6, ![1, 8, 1, 4096, 1, 1]⟩
abbrev S1x8x1x4096x3x1 : Shape := ⟨6, ![1, 8, 1, 4096, 3, 1]⟩
abbrev S8x1x1024x512 : Shape := ⟨4, ![8, 1, 1024, 512]⟩
abbrev S8x4096x3x1 : Shape := ⟨4, ![8, 4096, 3, 1]⟩
abbrev S1 : Shape := ⟨1, ![1]⟩
abbrev S1x1x1x1 : Shape := ⟨4, ![1, 1, 1, 1]⟩
abbrev S8x4096x3x512 : Shape := ⟨4, ![8, 4096, 3, 512]⟩
abbrev S8x4096x512 : Shape := ⟨3, ![8, 4096, 512]⟩
abbrev S8x4096x768 : Shape := ⟨3, ![8, 4096, 768]⟩
abbrev S1x1x512 : Shape := ⟨3, ![1, 1, 512]⟩

abbrev nBuf : Space → Nat
  | .hbm => 173
  | .vmem => 0
  | .smem => 0
  | _ => 0

abbrev hbmTy0_0 (i : Nat) : BufTy := match i % 128 with
  | 0 => ⟨S8x4096x3, .f32⟩
  | 1 => ⟨S8x1024x3, .f32⟩
  | 2 => ⟨S8x4096x256, .f32⟩
  | 3 => ⟨S8x1024x512, .f32⟩
  | 4 => ⟨S768x512, .f32⟩
  | 5 => ⟨S512, .f32⟩
  | 6 => ⟨S512, .f32⟩
  | 7 => ⟨S512x512, .f32⟩
  | 8 => ⟨S512, .f32⟩
  | 9 => ⟨S512, .f32⟩
  | 10 => ⟨S8x4096x3, .f32⟩
  | 11 => ⟨S_, .f32⟩
  | 12 => ⟨S8x4096, .f32⟩
  | 13 => ⟨S8x4096x1, .f32⟩
  | 14 => ⟨S8x1024x3, .f32⟩
  | 15 => ⟨S_, .f32⟩
  | 16 => ⟨S8x1024, .f32⟩
  | 17 => ⟨S8x1x1024, .f32⟩
  | 18 => ⟨S8x4096x1024, .f32⟩
  | 19 => ⟨S8x4096x1024, .f32⟩
  | 20 => ⟨S8x4096x1024, .f32⟩
  | 21 => ⟨S8x4096x1024, .f32⟩
  | 22 => ⟨S_, .f32⟩
  | 23 => ⟨S8x4096x1024, .f32⟩
  | 24 => ⟨S8x4096x1024, .f32⟩
  | 25 => ⟨S8x4096x1024, .f32⟩
  | 26 => ⟨S8x4096x1024, .f32⟩
  | 27 => ⟨S8x4096x3, .f32⟩
  | 28 => ⟨S8x4096x3, .i32⟩
  | 29 => ⟨S8x4096x3, .f32⟩
  | 30 => ⟨S_, .f32⟩
  | 31 => ⟨S8x4096x3, .f32⟩
  | 32 => ⟨S8x4096x3, .f32⟩
  | 33 => ⟨S_, .f32⟩
  | 34 => ⟨S8x4096x3, .f32⟩
  | 35 => ⟨S8x4096x3, .f32⟩
  | 36 => ⟨S_, .f32⟩
  | 37 => ⟨S8x4096, .f32⟩
  | 38 => ⟨S8x4096x1, .f32⟩
  | 39 => ⟨S1x8x1x4096x1x1, .f32⟩
  | 40 => ⟨S1x8x1x4096x3x1, .f32⟩
  | 41 => ⟨S8x4096x3, .f32⟩
  | 42 => ⟨S_, .f32⟩
  | 43 => ⟨S8x4096x3, .f32⟩
  | 44 => ⟨S8x4096x3, .f32⟩
  | 45 => ⟨S8x4096x3, .f32⟩
  | 46 => ⟨S8x1x1024x512, .f32⟩
  | 47 => ⟨S8x4096x3x1, .i32⟩
  | 48 => ⟨S_, .i32⟩
  | 49 => ⟨S8x4096x3x1, .i32⟩
  | 50 => ⟨S8x4096x3x1, .i1⟩
  | 51 => ⟨S_, .i32⟩
  | 52 => ⟨S8x4096x3x1, .i32⟩
  | 53 => ⟨S8x4096x3x1, .i32⟩
  | 54 => ⟨S8x4096x3x1, .i32⟩
  | 55 => ⟨S8x1024x512, .f32⟩
  | 56 => ⟨S1, .i32⟩
  | 57 => ⟨S_, .i32⟩
  | 58 => ⟨S8x4096x3x1, .i32⟩
  | 59 => ⟨S8x4096x3x1, .i1⟩
  | 60 => ⟨S1x1x1x1, .i32⟩
  | 61 => ⟨S8x4096x3x1, .i32⟩
  | 62 => ⟨S8x4096x3x1, .i1⟩
  | 63 => ⟨S8x4096x3x1, .i1⟩
  | 64 => ⟨S_, .i1⟩
  | 65 => ⟨S8x4096x3, .i1⟩
  | 66 => ⟨S8x4096x3x512, .f32⟩
  | 67 => ⟨S8x4096x3x512, .i1⟩
  | 68 => ⟨S_, .f32⟩
  | 69 => ⟨S8x4096x3x512, .f32⟩
  | 70 => ⟨S8x4096x3x512, .f32⟩
  | 71 => ⟨S8x4096x3x1, .f32⟩
  | 72 => ⟨S8x4096x3x512, .f32⟩
  | 73 => ⟨S8x4096x3x512, .f32⟩
  | 74 => ⟨S_, .f32⟩
  | 75 => ⟨S8x4096x512, .f32⟩
  | 76 => ⟨S8x4096x768, .f32⟩
  | 77 => ⟨S8x4096x512, .f32⟩
  | 78 => ⟨S_, .f32⟩
  | 79 => ⟨S512, .f32⟩
  | 80 => ⟨S1x1x512, .f32⟩
  | 81 => ⟨S_, .f32⟩
  | 82 => ⟨S1x1x512, .f32⟩
  | 83 => ⟨S1x1x512, .f32⟩
  | 84 => ⟨S_, .i32⟩
  | 85 => ⟨S_, .f32⟩
  | 86 => ⟨S512, .f32⟩
  | 87 => ⟨S1x1x512, .f32⟩
  | 88 => ⟨S_, .f32⟩
  | 89 => ⟨S1x1x512, .f32⟩
  | 90 => ⟨S1x1x512, .f32⟩
  | 91 => ⟨S8x4096x512, .f32⟩
  | 92 => ⟨S8x4096x512, .f32⟩
  | 93 => ⟨S8x4096x512, .f32⟩
  | 94 => ⟨S_, .f32⟩
  | 95 => ⟨S_, .f32⟩
  | 96 => ⟨S_, .f32⟩
  | 97 => ⟨S_, .f32⟩
  | 98 => ⟨S512, .f32⟩
  | 99 => ⟨S1x1x512, .f32⟩
  | 100 => ⟨S1x1x512, .f32⟩
  | 101 => ⟨S1x1x512, .f32⟩
  | 102 => ⟨S_, .f32⟩
  | 103 => ⟨S_, .i1⟩
  | 104 => ⟨S_, .f32⟩
  | 105 => ⟨S_, .f32⟩
  | 106 => ⟨S1x1x512, .f32⟩
  | 107 => ⟨S1x1x512, .f32⟩
  | 108 => ⟨S8x4096x512, .f32⟩
  | 109 => ⟨S8x4096x512, .f32⟩
  | 110 => ⟨S1x1x512, .f32⟩
  | 111 => ⟨S8x4096x512, .f32⟩
  | 112 => ⟨S8x4096x512, .f32⟩
  | 113 => ⟨S_, .f32⟩
  | 114 => ⟨S1x1x512, .f32⟩
  | 115 => ⟨S1x1x512, .f32⟩
  | 116 => ⟨S1x1x512, .f32⟩
  | 117 => ⟨S8x4096x512, .f32⟩
  | 118 => ⟨S8x4096x512, .f32⟩
  | 119 => ⟨S1x1x512, .f32⟩
  | 120 => ⟨S8x4096x512, .f32⟩
  | 121 => ⟨S8x4096x512, .f32⟩
  | 122 => ⟨S_, .f32⟩
  | 123 => ⟨S8x4096x512, .f32⟩
  | 124 => ⟨S8x4096x512, .f32⟩
  | 125 => ⟨S8x4096x512, .f32⟩
  | 126 => ⟨S_, .f32⟩
  | 127 => ⟨S512, .f32⟩
  | _ => ⟨S8x4096x3, .f32⟩

abbrev hbmTy0_1 (i : Nat) : BufTy := match i % 128 with
  | 0 => ⟨S1x1x512, .f32⟩
  | 1 => ⟨S_, .f32⟩
  | 2 => ⟨S1x1x512, .f32⟩
  | 3 => ⟨S1x1x512, .f32⟩
  | 4 => ⟨S_, .i32⟩
  | 5 => ⟨S_, .f32⟩
  | 6 => ⟨S512, .f32⟩
  | 7 => ⟨S1x1x512, .f32⟩
  | 8 => ⟨S_, .f32⟩
  | 9 => ⟨S1x1x512, .f32⟩
  | 10 => ⟨S1x1x512, .f32⟩
  | 11 => ⟨S8x4096x512, .f32⟩
  | 12 => ⟨S8x4096x512, .f32⟩
  | 13 => ⟨S8x4096x512, .f32⟩
  | 14 => ⟨S_, .f32⟩
  | 15 => ⟨S_, .f32⟩
  | 16 => ⟨S_, .f32⟩
  | 17 => ⟨S_, .f32⟩
  | 18 => ⟨S512, .f32⟩
  | 19 => ⟨S1x1x512, .f32⟩
  | 20 => ⟨S1x1x512, .f32⟩
  | 21 => ⟨S1x1x512, .f32⟩
  | 22 => ⟨S_, .f32⟩
  | 23 => ⟨S_, .i1⟩
  | 24 => ⟨S_, .f32⟩
  | 25 => ⟨S_, .f32⟩
  | 26 => ⟨S1x1x512, .f32⟩
  | 27 => ⟨S1x1x512, .f32⟩
  | 28 => ⟨S8x4096x512, .f32⟩
  | 29 => ⟨S8x4096x512, .f32⟩
  | 30 => ⟨S1x1x512, .f32⟩
  | 31 => ⟨S8x4096x512, .f32⟩
  | 32 => ⟨S8x4096x512, .f32⟩
  | 33 => ⟨S_, .f32⟩
  | 34 => ⟨S1x1x512, .f32⟩
  | 35 => ⟨S1x1x512, .f32⟩
  | 36 => ⟨S1x1x512, .f32⟩
  | 37 => ⟨S8x4096x512, .f32⟩
  | 38 => ⟨S8x4096x512, .f32⟩
  | 39 => ⟨S1x1x512, .f32⟩
  | 40 => ⟨S8x4096x512, .f32⟩
  | 41 => ⟨S8x4096x512, .f32⟩
  | 42 => ⟨S_, .f32⟩
  | 43 => ⟨S8x4096x512, .f32⟩
  | 44 => ⟨S8x4096x512, .f32⟩
  | _ => ⟨S8x4096x3, .f32⟩

abbrev hbmTy (i : Nat) : BufTy := match i / 128 with
  | 0 => hbmTy0_0 i
  | 1 => hbmTy0_1 i
  | _ => ⟨S8x4096x3, .f32⟩

abbrev bufTy : (tb : Table) → Fin (tcTables nBuf tb) → BufTy
  | .hbm, ⟨i, _⟩ => hbmTy i
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_values : Ref sig .tc := ⟨.hbm, 27, rfl⟩
abbrev main_indices : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_c : Ref sig .tc := ⟨.hbm, 48, rfl⟩
abbrev main_call0_v0 : Ref sig .tc := ⟨.hbm, 49, rfl⟩
abbrev main_call0_v1 : Ref sig .tc := ⟨.hbm, 50, rfl⟩
abbrev main_call0_c_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_c_1 : Ref sig .tc := ⟨.hbm, 56, rfl⟩
abbrev main_call0_c_2 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_c_3 : Ref sig .tc := ⟨.hbm, 64, rfl⟩
abbrev main_call0_v12 : Ref sig .tc := ⟨.hbm, 65, rfl⟩
abbrev main_call0_v13 : Ref sig .tc := ⟨.hbm, 66, rfl⟩
abbrev main_call0_v14 : Ref sig .tc := ⟨.hbm, 67, rfl⟩
abbrev main_call0_cst : Ref sig .tc := ⟨.hbm, 68, rfl⟩
abbrev main_call0_v15 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_cst_6 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_cst_7 : Ref sig .tc := ⟨.hbm, 78, rfl⟩
abbrev main_v36 : Ref sig .tc := ⟨.hbm, 79, rfl⟩
abbrev main_v37 : Ref sig .tc := ⟨.hbm, 80, rfl⟩
abbrev main_cst_8 : Ref sig .tc := ⟨.hbm, 81, rfl⟩
abbrev main_v38 : Ref sig .tc := ⟨.hbm, 82, rfl⟩
abbrev main_v39 : Ref sig .tc := ⟨.hbm, 83, rfl⟩
abbrev main_c : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_cst_0 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_cst_1 : Ref sig .tc := ⟨.hbm, 95, rfl⟩
abbrev main_call1_v8 : Ref sig .tc := ⟨.hbm, 96, rfl⟩
abbrev main_call1_cst_2 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_call1_v12 : Ref sig .tc := ⟨.hbm, 101, rfl⟩
abbrev main_call1_cst_3 : Ref sig .tc := ⟨.hbm, 102, rfl⟩
abbrev main_call1_v13 : Ref sig .tc := ⟨.hbm, 103, rfl⟩
abbrev main_call1_cst_4 : Ref sig .tc := ⟨.hbm, 104, rfl⟩
abbrev main_call1_call0_v0 : Ref sig .tc := ⟨.hbm, 105, rfl⟩
abbrev main_call1_call0_v1 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_cst_9 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_call2_cst : Ref sig .tc := ⟨.hbm, 122, rfl⟩
abbrev main_call2_v0 : Ref sig .tc := ⟨.hbm, 123, rfl⟩
abbrev main_v54 : Ref sig .tc := ⟨.hbm, 124, rfl⟩
abbrev main_v55 : Ref sig .tc := ⟨.hbm, 125, rfl⟩
abbrev main_cst_10 : Ref sig .tc := ⟨.hbm, 126, rfl⟩
abbrev main_v56 : Ref sig .tc := ⟨.hbm, 127, rfl⟩
abbrev main_v57 : Ref sig .tc := ⟨.hbm, 128, rfl⟩
abbrev main_cst_11 : Ref sig .tc := ⟨.hbm, 129, rfl⟩
abbrev main_v58 : Ref sig .tc := ⟨.hbm, 130, rfl⟩
abbrev main_v59 : Ref sig .tc := ⟨.hbm, 131, rfl⟩
abbrev main_c_12 : Ref sig .tc := ⟨.hbm, 132, rfl⟩
abbrev main_call3_cst : Ref sig .tc := ⟨.hbm, 133, rfl⟩
abbrev main_call3_v0 : Ref sig .tc := ⟨.hbm, 134, rfl⟩
abbrev main_call3_v1 : Ref sig .tc := ⟨.hbm, 135, rfl⟩
abbrev main_call3_cst_0 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_call3_v5 : Ref sig .tc := ⟨.hbm, 140, rfl⟩
abbrev main_call3_v6 : Ref sig .tc := ⟨.hbm, 141, rfl⟩
abbrev main_call3_v7 : Ref sig .tc := ⟨.hbm, 142, rfl⟩
abbrev main_call3_cst_1 : Ref sig .tc := ⟨.hbm, 143, rfl⟩
abbrev main_call3_v8 : Ref sig .tc := ⟨.hbm, 144, rfl⟩
abbrev main_call3_cst_2 : Ref sig .tc := ⟨.hbm, 145, rfl⟩
abbrev main_call3_v9 : Ref sig .tc := ⟨.hbm, 146, rfl⟩
abbrev main_call3_v10 : Ref sig .tc := ⟨.hbm, 147, rfl⟩
abbrev main_call3_v11 : Ref sig .tc := ⟨.hbm, 148, rfl⟩
abbrev main_call3_v12 : Ref sig .tc := ⟨.hbm, 149, rfl⟩
abbrev main_call3_cst_3 : Ref sig .tc := ⟨.hbm, 150, rfl⟩
abbrev main_call3_v13 : Ref sig .tc := ⟨.hbm, 151, rfl⟩
abbrev main_call3_cst_4 : Ref sig .tc := ⟨.hbm, 152, rfl⟩
abbrev main_call3_call0_v0 : Ref sig .tc := ⟨.hbm, 153, rfl⟩
abbrev main_call3_call0_v1 : Ref sig .tc := ⟨.hbm, 154, rfl⟩
abbrev main_v60 : Ref sig .tc := ⟨.hbm, 155, rfl⟩
abbrev main_v61 : Ref sig .tc := ⟨.hbm, 156, rfl⟩
abbrev main_v62 : Ref sig .tc := ⟨.hbm, 157, rfl⟩
abbrev main_v63 : Ref sig .tc := ⟨.hbm, 158, rfl⟩
abbrev main_v64 : Ref sig .tc := ⟨.hbm, 159, rfl⟩
abbrev main_v65 : Ref sig .tc := ⟨.hbm, 160, rfl⟩
abbrev main_cst_13 : Ref sig .tc := ⟨.hbm, 161, rfl⟩
abbrev main_v66 : Ref sig .tc := ⟨.hbm, 162, rfl⟩
abbrev main_v67 : Ref sig .tc := ⟨.hbm, 163, rfl⟩
abbrev main_v68 : Ref sig .tc := ⟨.hbm, 164, rfl⟩
abbrev main_v69 : Ref sig .tc := ⟨.hbm, 165, rfl⟩
abbrev main_v70 : Ref sig .tc := ⟨.hbm, 166, rfl⟩
abbrev main_v71 : Ref sig .tc := ⟨.hbm, 167, rfl⟩
abbrev main_v72 : Ref sig .tc := ⟨.hbm, 168, rfl⟩
abbrev main_v73 : Ref sig .tc := ⟨.hbm, 169, rfl⟩
abbrev main_call4_cst : Ref sig .tc := ⟨.hbm, 170, rfl⟩
abbrev main_call4_v0 : Ref sig .tc := ⟨.hbm, 171, rfl⟩
abbrev main_v74 : Ref sig .tc := ⟨.hbm, 172, rfl⟩

abbrev nD : Nat := 1
abbrev τ : Topo := Topo.v7x

variable {F : FTy → Type} [FloatOps F]
-- ==== Proof.Laws.lean ====
/- Facts about extended reals: when a value is a real number, what the programs' constants are, normalising a column by
   its mean and variance in the two ways the programs write it, and interpolating before or after a matrix product. -/
module

public import Idealize.ShloMosaic.PureOps
public import Idealize.ShloMosaic.PureOps.Ideal.Laws
public import Idealize.ShloMosaic.Lib.IdealHost
public import Mathlib.Data.EReal.Inv
public import Mathlib.Tactic.FieldSimp

@[expose] public section

noncomputable section

namespace Cert.Laws

open Idealize.ShloMosaic
open scoped BigOperators

/-! ## Real values -/

/-- The extended real is a real number. -/
def IsReal (x : EReal) : Prop := ∃ r : ℝ, x = (r : EReal)

theorem isReal_coe (r : ℝ) : IsReal (r : EReal) := ⟨r, rfl⟩

theorem isReal_iff {x : EReal} : IsReal x ↔ x ≠ ⊤ ∧ x ≠ ⊥ := by
  constructor
  · rintro ⟨r, rfl⟩; exact ⟨EReal.coe_ne_top r, EReal.coe_ne_bot r⟩
  · rintro ⟨h1, h2⟩; exact ⟨x.toReal, (EReal.coe_toReal h1 h2).symm⟩

theorem IsReal.lt_top {x : EReal} (h : IsReal x) : x < ⊤ := by obtain ⟨r, rfl⟩ := h; exact EReal.coe_lt_top r

theorem IsReal.add {x y : EReal} (hx : IsReal x) (hy : IsReal y) : IsReal (x + y) := by
  obtain ⟨a, rfl⟩ := hx; obtain ⟨b, rfl⟩ := hy; exact ⟨a + b, by norm_cast⟩

theorem IsReal.sub {x y : EReal} (hx : IsReal x) (hy : IsReal y) : IsReal (x - y) := by
  obtain ⟨a, rfl⟩ := hx; obtain ⟨b, rfl⟩ := hy; exact ⟨a - b, by norm_cast⟩

theorem IsReal.mul {x y : EReal} (hx : IsReal x) (hy : IsReal y) : IsReal (x * y) := by
  obtain ⟨a, rfl⟩ := hx; obtain ⟨b, rfl⟩ := hy; exact ⟨a * b, by norm_cast⟩

/-- A finite sum of reals, as one real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} [Fintype ι] {f : ι → EReal} (h : ∀ i, IsReal (f i)) : IsReal (∑ i, f i) := by
  choose g hg using h
  exact ⟨∑ i, g i, by rw [coe_sum]; exact Finset.sum_congr rfl fun i _ => hg i⟩

/-- A value whose absolute value is below the top is a real number. -/
theorem isReal_of_abs_lt {x : EReal} (h : max x (-x) < ⊤) : IsReal x := by
  rw [max_lt_iff] at h
  refine isReal_iff.mpr ⟨h.1.ne, ?_⟩
  rintro rfl
  simp at h

/-- The quotient of two reals, the divisor not zero. -/
theorem div_coe_coe (a : ℝ) {b : ℝ} (hb : b ≠ 0) : Ideal.div (a : EReal) (b : EReal) = ((a / b : ℝ) : EReal) := by
  rw [Ideal.div_coe hb, ← EReal.coe_mul]; congr 1; ring

theorem div_top (x : EReal) : Ideal.div x ⊤ = 0 := by simp [Ideal.div]

theorem div_bot (x : EReal) : Ideal.div x ⊥ = 0 := by simp [Ideal.div]

/-! ## The constants -/

theorem ofBits_two : Ideal.ofBits .f32 0x40000000#32 = ((2 : ℝ) : EReal) := by
  simp [Ideal.ofBits, Ideal.ieee, -EReal.coe_mul]; norm_num

theorem ofBits_count : Ideal.ofBits .f32 0x47000000#32 = ((32768 : ℝ) : EReal) := by
  simp [Ideal.ofBits, Ideal.ieee, -EReal.coe_mul]; norm_num

theorem ofBits_inf : Ideal.ofBits .f32 0x7F800000#32 = ⊤ := by
  simp [Ideal.ofBits, Ideal.ieee]

/-- The guard of the variances is a positive real. -/
theorem ofBits_eps : ∃ r : ℝ, 0 < r ∧ Ideal.ofBits .f32 0x3A83126F#32 = (r : EReal) := by
  refine ⟨_, ?_, by simp [Ideal.ofBits, Ideal.ieee, -EReal.coe_mul]; rfl⟩
  positivity

/-- The floor of the distances is a positive real. -/
theorem ofBits_floor : ∃ r : ℝ, 0 < r ∧ Ideal.ofBits .f32 0x2EDBE6FF#32 = (r : EReal) := by
  refine ⟨_, ?_, by simp [Ideal.ofBits, Ideal.ieee, -EReal.coe_mul]; rfl⟩
  positivity

/-! ## Normalising a column -/

section norm

variable {ι : Type} [Fintype ι]

/-- The mean of a column of `n` elements. -/
def mean (n : EReal) (x : ι → EReal) : EReal := Ideal.div (∑ i, x i) n

/-- The factor of a column: its scale over the root of the mean square less the square of the mean, guarded. -/
def factor (n ε γ : EReal) (x : ι → EReal) : EReal :=
  Ideal.div γ (Ideal.sqrt (Ideal.div (∑ i, x i * x i) n - mean n x * mean n x + ε))

/-- A column normalised by its mean and its mean squared deviation. -/
def normalised (n ε γ β : EReal) (x : ι → EReal) (i : ι) : EReal :=
  Ideal.div (γ * (x i - mean n x))
    (Ideal.sqrt (Ideal.div (∑ j, (x j - mean n x) * (x j - mean n x)) n + ε)) + β

/-- A sum of extended reals with a bottom term is the bottom. -/
theorem sum_eq_bot {f : ι → EReal} (h : ∃ i, f i = ⊥) : ∑ i, f i = ⊥ := by
  classical
  obtain ⟨i, hi⟩ := h
  rw [← Finset.add_sum_erase _ _ (Finset.mem_univ i), hi, EReal.bot_add]

/-- A sum of extended reals with a top term and no bottom one is the top. -/
theorem sum_eq_top {f : ι → EReal} (h : ∃ i, f i = ⊤) (hb : ∀ i, f i ≠ ⊥) : ∑ i, f i = ⊤ := by
  classical
  obtain ⟨i, hi⟩ := h
  have hs : ∀ s : Finset ι, ∑ j ∈ s, f j ≠ ⊥ := fun s => by
    induction s using Finset.induction_on with
    | empty => simp
    | insert a s ha ih =>
      rw [Finset.sum_insert ha]
      exact fun h => (EReal.add_eq_bot_iff.mp h).elim (hb a) ih
  rw [← Finset.add_sum_erase _ _ (Finset.mem_univ i), hi, EReal.top_add_of_ne_bot (hs _)]

/-- Dividing the infinities by the number of elements leaves them. -/
theorem top_div_count : Ideal.div (⊤ : EReal) ((32768 : ℝ) : EReal) = ⊤ := by
  rw [Ideal.div_coe (by norm_num : (32768 : ℝ) ≠ 0), EReal.top_mul_coe_of_pos (by norm_num)]

theorem bot_div_count : Ideal.div (⊥ : EReal) ((32768 : ℝ) : EReal) = ⊥ := by
  rw [Ideal.div_coe (by norm_num : (32768 : ℝ) ≠ 0), EReal.bot_mul_coe_of_pos (by norm_num)]

/-- A square is not the bottom. -/
theorem mul_self_ne_bot (z : EReal) : z * z ≠ ⊥ := by
  induction z with
  | bot => simp
  | top => simp
  | coe r => rw [← EReal.coe_mul]; exact EReal.coe_ne_bot _

/-- An extended real that is not real is an infinity. -/
theorem top_or_bot {x : EReal} (h : ¬ IsReal x) : x = ⊤ ∨ x = ⊥ := by
  by_contra hc
  exact h (isReal_iff.mpr ⟨fun h => hc (Or.inl h), fun h => hc (Or.inr h)⟩)

/-- The mean of a column that holds an infinity is an infinity. -/
theorem mean_infinite {x : ι → EReal} (hx : ∃ i, ¬ IsReal (x i)) :
    mean ((32768 : ℝ) : EReal) x = ⊤ ∨ mean ((32768 : ℝ) : EReal) x = ⊥ := by
  by_cases hb : ∃ i, x i = ⊥
  · right; rw [mean, sum_eq_bot hb, bot_div_count]
  · left
    obtain ⟨i, hi⟩ := hx
    have hi' : x i = ⊤ := (top_or_bot hi).resolve_right fun h => hb ⟨i, h⟩
    rw [mean, sum_eq_top ⟨i, hi'⟩ fun i h => hb ⟨i, h⟩, top_div_count]

/-- A column that holds an infinity is normalised to the offset throughout. -/
theorem normalised_infinite {ε : EReal} (hε : IsReal ε) (γ β : EReal) {x : ι → EReal} (hx : ∃ i, ¬ IsReal (x i)) (i : ι) :
    normalised ((32768 : ℝ) : EReal) ε γ β x i = β := by
  obtain ⟨e, rfl⟩ := hε
  have hm := mean_infinite hx
  have hd : ∑ j, (x j - mean ((32768 : ℝ) : EReal) x) * (x j - mean ((32768 : ℝ) : EReal) x) = ⊤ := by
    refine sum_eq_top ⟨i, ?_⟩ fun i => mul_self_ne_bot _
    have : x i - mean ((32768 : ℝ) : EReal) x = ⊤ ∨ x i - mean ((32768 : ℝ) : EReal) x = ⊥ := by
      rcases hm with h | h <;> rw [h]
      · right; rw [sub_eq_add_neg, EReal.neg_top, EReal.add_bot]
      · rw [sub_eq_add_neg, EReal.neg_bot]
        by_cases hb : x i = ⊥
        · right; rw [hb, EReal.bot_add]
        · left; exact EReal.add_top_of_ne_bot hb
    rcases this with h | h <;> rw [h] <;> simp
  rw [normalised, hd, top_div_count, EReal.top_add_coe, Ideal.sqrt_top, div_top, zero_add]

/-- Two columns that agree, but for places where both hold infinities, are normalised alike. -/
theorem normalised_congr {ε : EReal} (hε : IsReal ε) (γ β : EReal) {x y : ι → EReal}
    (h : ∀ i, x i = y i ∨ (¬ IsReal (x i) ∧ ¬ IsReal (y i))) (i : ι) :
    normalised ((32768 : ℝ) : EReal) ε γ β x i = normalised ((32768 : ℝ) : EReal) ε γ β y i := by
  by_cases he : ∀ i, x i = y i
  · rw [funext he]
  · obtain ⟨j, hj⟩ := not_forall.mp he
    have hj' := (h j).resolve_left hj
    rw [normalised_infinite hε γ β ⟨j, hj'.1⟩, normalised_infinite hε γ β ⟨j, hj'.2⟩]

/-- The two ways to normalise agree: a factor and an offset, or deviations from the mean over the deviation. The
    scale is a real; the column and the offset are any extended reals. With an infinite element both are the offset. -/
theorem factor_eq_normalised (hcard : Fintype.card ι = 32768) {ε γ : EReal} (hε : ∃ r : ℝ, 0 < r ∧ ε = (r : EReal))
    (hγ : IsReal γ) (β : EReal) (x : ι → EReal) (i : ι) :
    x i * factor ((32768 : ℝ) : EReal) ε γ x
        + (β - mean ((32768 : ℝ) : EReal) x * factor ((32768 : ℝ) : EReal) ε γ x)
      = normalised ((32768 : ℝ) : EReal) ε γ β x i := by
  obtain ⟨e, he, rfl⟩ := hε
  obtain ⟨g, rfl⟩ := hγ
  have hn : (32768 : ℝ) ≠ 0 := by norm_num
  by_cases hx : ∀ i, IsReal (x i)
  · choose y hy using hx
    obtain rfl : x = fun i => (y i : EReal) := funext hy
    have hm : mean ((32768 : ℝ) : EReal) (fun i => (y i : EReal)) = (((∑ i, y i) / 32768 : ℝ) : EReal) := by
      rw [mean, ← coe_sum, div_coe_coe _ hn]
    have hv : (∑ i, y i * y i) / 32768 - (∑ i, y i) / 32768 * ((∑ i, y i) / 32768)
        = (∑ j, (y j - (∑ i, y i) / 32768) * (y j - (∑ i, y i) / 32768)) / 32768 := by
      set m := (∑ i, y i) / 32768 with hmdef
      have hs : ∑ i, y i = 32768 * m := by rw [hmdef]; ring
      have : ∑ j, (y j - m) * (y j - m) = (∑ j, y j * y j) - 2 * m * (∑ j, y j) + 32768 * (m * m) := by
        have e1 : ∀ j, (y j - m) * (y j - m) = y j * y j - 2 * m * y j + m * m := fun j => by ring
        simp only [e1, Finset.sum_add_distrib, Finset.sum_sub_distrib, ← Finset.mul_sum, Finset.sum_const,
          Finset.card_univ, hcard, nsmul_eq_mul]
        push_cast; ring
      rw [this, hs]; ring
    have hnn : 0 ≤ (∑ j, (y j - (∑ i, y i) / 32768) * (y j - (∑ i, y i) / 32768)) / 32768 :=
      div_nonneg (Finset.sum_nonneg fun j _ => mul_self_nonneg _) (by norm_num)
    have hf : factor ((32768 : ℝ) : EReal) (e : EReal) (g : EReal) (fun i => (y i : EReal))
        = ((g / Real.sqrt ((∑ j, (y j - (∑ i, y i) / 32768) * (y j - (∑ i, y i) / 32768)) / 32768 + e) : ℝ) : EReal) := by
      rw [factor, hm]
      simp only [← EReal.coe_mul]
      rw [← coe_sum, div_coe_coe _ hn, ← EReal.coe_sub, hv, ← EReal.coe_add, Ideal.sqrt_coe, if_neg (by linarith),
        div_coe_coe _ (Real.sqrt_pos.mpr (by linarith)).ne']
    rw [normalised, hf, hm]
    simp only [← EReal.coe_mul, ← EReal.coe_sub]
    rw [← coe_sum, div_coe_coe _ hn, ← EReal.coe_add, Ideal.sqrt_coe, if_neg (by linarith),
      div_coe_coe _ (Real.sqrt_pos.mpr (by linarith)).ne', sub_eq_add_neg, add_comm β, ← add_assoc, ← EReal.coe_neg,
      ← EReal.coe_add]
    congr 2
    ring
  · have hinf := not_forall.mp hx
    have hmm : mean ((32768 : ℝ) : EReal) x * mean ((32768 : ℝ) : EReal) x = ⊤ := by
      rcases mean_infinite hinf with h | h <;> rw [h] <;> simp
    have hq : ∑ i, x i * x i = ⊤ := by
      obtain ⟨i, hi⟩ := hinf
      refine sum_eq_top ⟨i, ?_⟩ fun i => mul_self_ne_bot _
      rcases top_or_bot hi with h | h <;> rw [h] <;> simp
    have hf : factor ((32768 : ℝ) : EReal) (e : EReal) (g : EReal) x = 0 := by
      rw [factor, hq, hmm, top_div_count, sub_eq_add_neg, EReal.neg_top, EReal.add_bot, EReal.bot_add, Ideal.sqrt_bot, div_bot]
    rw [normalised_infinite (isReal_coe e) _ _ hinf, hf]
    simp

end norm

/-! ## Interpolating -/

/-- Multiplying first and interpolating after is interpolating first and multiplying after, for real values: the
    matrix with the three weights at the three positions of a row picks and adds the three rows. -/
theorem interpolate {n m : ℕ} (a : Fin 3 → Fin n) (w : Fin 3 → EReal) (P : Fin n → Fin m → EReal) (W : Fin m → EReal)
    (hw : ∀ k, IsReal (w k)) (hP : ∀ p k, IsReal (P p k)) (hW : ∀ k, IsReal (W k)) :
    ∑ p, ((if a 0 = p then w 0 else 0) + (if a 1 = p then w 1 else 0) + (if a 2 = p then w 2 else 0))
        * (∑ k, P p k * W k)
      = ∑ k, (∑ l, P (a l) k * w l) * W k := by
  choose w' ew using hw
  choose P' eP using hP
  choose W' eW using hW
  obtain rfl : w = fun k => (w' k : EReal) := funext ew
  obtain rfl : P = fun p k => (P' p k : EReal) := funext fun p => funext (eP p)
  obtain rfl : W = fun k => (W' k : EReal) := funext eW
  have ite : ∀ (c : Prop) [Decidable c] (r : ℝ), (if c then (r : EReal) else 0) = ((if c then r else 0 : ℝ) : EReal) :=
    fun c _ r => by split <;> simp
  simp only [ite, ← EReal.coe_mul, ← EReal.coe_add, ← coe_sum]
  congr 1
  simp only [add_mul, Finset.sum_add_distrib, ite_mul, zero_mul, Finset.sum_ite_eq, Finset.mem_univ, if_true,
    Fin.sum_univ_three]
  simp only [Finset.mul_sum, ← Finset.sum_add_distrib]
  exact Finset.sum_congr rfl fun k _ => by ring

/-- An infinity in a sum makes it an infinity. -/
theorem not_real_sum {ι : Type} [Fintype ι] {f : ι → EReal} (h : ∃ i, ¬ IsReal (f i)) : ¬ IsReal (∑ i, f i) := by
  rw [isReal_iff, not_and_or, not_not, not_not]
  by_cases hb : ∃ i, f i = ⊥
  · exact Or.inr (sum_eq_bot hb)
  · obtain ⟨i, hi⟩ := h
    exact Or.inl (sum_eq_top ⟨i, (top_or_bot hi).resolve_right fun h => hb ⟨i, h⟩⟩ fun i h => hb ⟨i, h⟩)

/-- An infinity and anything add up to an infinity. -/
theorem not_real_add {x : EReal} (y : EReal) (h : ¬ IsReal x) : ¬ IsReal (x + y) := by
  have hs := not_real_sum (f := ![x, y]) ⟨0, h⟩
  rw [Fin.sum_univ_two] at hs
  exact hs

/-- An infinity times a real other than zero is an infinity. -/
theorem not_real_mul {x y : EReal} (hx : ¬ IsReal x) (hy : IsReal y) (h0 : y ≠ 0) : ¬ IsReal (x * y) := by
  obtain ⟨r, rfl⟩ := hy
  rw [isReal_iff, not_and_or, not_not, not_not]
  have hr : r ≠ 0 := fun h => h0 (by rw [h, EReal.coe_zero])
  rcases top_or_bot hx with rfl | rfl <;> rcases lt_or_gt_of_ne hr with h | h
  · exact Or.inr (EReal.top_mul_coe_of_neg h)
  · exact Or.inl (EReal.top_mul_coe_of_pos h)
  · exact Or.inl (EReal.bot_mul_coe_of_neg h)
  · exact Or.inr (EReal.bot_mul_coe_of_pos h)

/-- Multiplying first and interpolating after, with positive weights at three different positions: the same as
    interpolating first, or, where a row holds an infinity that counts, an infinity both ways. -/
theorem interpolate_any {n m : ℕ} (a : Fin 3 → Fin n) (ha : Function.Injective a) (w : Fin 3 → EReal) (P : Fin n → Fin m → EReal) (W : Fin m → EReal)
    (hw : ∀ k, IsReal (w k)) (hw0 : ∀ k, w k ≠ 0) (hW : ∀ k, IsReal (W k)) :
    let L := ∑ p, ((if a 0 = p then w 0 else 0) + (if a 1 = p then w 1 else 0) + (if a 2 = p then w 2 else 0))
        * (∑ k, P p k * W k)
    let R := ∑ k, (∑ l, P (a l) k * w l) * W k
    L = R ∨ (¬ IsReal L ∧ ¬ IsReal R) := by
  intro L R
  have at_a : ∀ l, (if a 0 = a l then w 0 else 0) + (if a 1 = a l then w 1 else 0) + (if a 2 = a l then w 2 else 0) = w l := fun l => by
    simp only [ha.eq_iff]
    match l with
    | 0 => simp
    | 1 => simp
    | 2 => simp
  have off_a : ∀ p, (∀ l, a l ≠ p) →
      (if a 0 = p then w 0 else 0) + (if a 1 = p then w 1 else 0) + (if a 2 = p then w 2 else 0) = 0 := fun p hp => by
    rw [if_neg (hp 0), if_neg (hp 1), if_neg (hp 2), add_zero, add_zero]
  by_cases hc : ∃ l k, W k ≠ 0 ∧ ¬ IsReal (P (a l) k)
  · obtain ⟨l, k, hk, hP⟩ := hc
    refine Or.inr ⟨not_real_sum ⟨a l, ?_⟩, not_real_sum ⟨k, not_real_mul (not_real_sum ⟨l, not_real_mul hP (hw l) (hw0 l)⟩) (hW k) hk⟩⟩
    rw [at_a, mul_comm]
    exact not_real_mul (not_real_sum ⟨k, not_real_mul hP (hW k) hk⟩) (hw l) (hw0 l)
  · left
    classical
    let P' : Fin n → Fin m → EReal := fun p k => if W k ≠ 0 ∧ ∃ l, a l = p then P p k else 0
    have hP' : ∀ p k, IsReal (P' p k) := fun p k => by
      by_cases h : W k ≠ 0 ∧ ∃ l, a l = p
      · obtain ⟨h0, l, rfl⟩ := h
        show IsReal (if _ then _ else _)
        rw [if_pos ⟨h0, l, rfl⟩]
        exact not_not.mp fun hn => hc ⟨l, k, h0, hn⟩
      · show IsReal (if _ then _ else _)
        rw [if_neg h]
        exact ⟨0, EReal.coe_zero.symm⟩
    have hPW : ∀ l k, W k ≠ 0 → P' (a l) k = P (a l) k := fun l k h => if_pos ⟨h, l, rfl⟩
    have eL : L = ∑ p, ((if a 0 = p then w 0 else 0) + (if a 1 = p then w 1 else 0) + (if a 2 = p then w 2 else 0))
        * (∑ k, P' p k * W k) := by
      refine Finset.sum_congr rfl fun p _ => ?_
      by_cases hp : ∃ l, a l = p
      · obtain ⟨l, rfl⟩ := hp
        refine congrArg _ (Finset.sum_congr rfl fun k _ => ?_)
        by_cases h : W k = 0
        · rw [h, mul_zero, mul_zero]
        · rw [hPW l k h]
      · rw [off_a p fun l h => hp ⟨l, h⟩, zero_mul, zero_mul]
    have eR : R = ∑ k, (∑ l, P' (a l) k * w l) * W k := by
      refine Finset.sum_congr rfl fun k _ => ?_
      by_cases h : W k = 0
      · rw [h, mul_zero, mul_zero]
      · simp only [hPW _ k h]
    rw [eL, eR]
    exact interpolate a w P' W hw hP' hW

/-- The weights of three distances: inverse distances, each floored, over their sum. -/
def weight (δ : EReal) (d : Fin 3 → EReal) (k : Fin 3) : EReal :=
  Ideal.div (Ideal.div 1 (max (d k) δ)) (∑ l, Ideal.div 1 (max (d l) δ))

/-- The weights of real distances are positive reals. -/
theorem pos_weight {δ : EReal} (hδ : ∃ r : ℝ, 0 < r ∧ δ = (r : EReal)) {d : Fin 3 → EReal} (hd : ∀ k, IsReal (d k))
    (k : Fin 3) : ∃ r : ℝ, 0 < r ∧ weight δ d k = (r : EReal) := by
  obtain ⟨e, he, rfl⟩ := hδ
  choose d' ed using hd
  obtain rfl : d = fun k => (d' k : EReal) := funext ed
  have hmax : ∀ l, max (d' l : EReal) (e : EReal) = ((max (d' l) e : ℝ) : EReal) := fun l => by
    rcases le_total (d' l) e with h | h
    · rw [max_eq_right h, max_eq_right (EReal.coe_le_coe_iff.mpr h)]
    · rw [max_eq_left h, max_eq_left (EReal.coe_le_coe_iff.mpr h)]
  have hpos : ∀ l, 0 < max (d' l) e := fun l => lt_max_of_lt_right he
  have hinv : ∀ l, Ideal.div 1 (max (d' l : EReal) (e : EReal)) = ((1 / max (d' l) e : ℝ) : EReal) := fun l => by
    rw [hmax, ← EReal.coe_one, div_coe_coe _ (hpos l).ne']
  have hsum : 0 < ∑ l, 1 / max (d' l) e := Finset.sum_pos (fun l _ => one_div_pos.mpr (hpos l)) Finset.univ_nonempty
  simp only [weight, hinv, ← coe_sum]
  rw [div_coe_coe]
  · exact ⟨_, div_pos (one_div_pos.mpr (hpos k)) hsum, rfl⟩
  · exact hsum.ne'

end Cert.Laws

end
-- ==== Proof.Finite.lean ====
/- The precondition read: the entries it speaks of are real numbers. -/
module

public import proofs.«01_k».proof.Pre_finite
public import proofs.«01_k».proof.Proof.Laws
public import Idealize.ShloMosaic.Lib.Pointwise.Index

@[expose] public section

set_option maxRecDepth 16384

noncomputable section

namespace Cert.Finite

open Idealize.ShloMosaic Cert.Pre_finite

/-- The side conditions the precondition's operations state. -/
instance facts : Cert.Pre_finite.Facts where
  slices_S768x512_S512x512_0_0 := by decide
  bcast_S_S8x4096x3 := by decide
  bcast_S_S8x1024x3 := by decide
  bcast_S_S512x512 := by decide
  bcast_S_S512 := by decide

/-- A number whose absolute value compares below the infinity word is real. -/
theorem isReal_of_word {x : EReal} (h : BitVec.ofBool (decide (max x (-x) < Ideal.ofBits .f32 0x7F800000#32)) = 1#1) : Laws.IsReal x := by
  rw [Laws.ofBits_inf] at h
  refine Laws.isReal_of_abs_lt (by_contra fun hn => ?_)
  rw [decide_eq_false hn] at h
  exact absurd h (by decide)

variable (a0 : FVec Ideal S8x4096x3 .f32) (a1 : FVec Ideal S8x1024x3 .f32) (a2 : FVec Ideal S8x4096x256 .f32) (a3 : FVec Ideal S8x1024x512 .f32)
  (a4 : FVec Ideal S768x512 .f32) (a5 a6 : FVec Ideal S512 .f32) (a7 : FVec Ideal S512x512 .f32) (a8 a9 : FVec Ideal S512 .f32)

/-- What the precondition gives of the first positions, -/
theorem real0 (h : (fn a0 a1 a2 a3 a4 a5 a6 a7 a8 a9).1 = fun _ => 1#1) (i : S8x4096x3.Idx) : Laws.IsReal (a0 i) :=
  isReal_of_word (congrFun h i)

/-- of the second positions, -/
theorem real1 (h : (fn a0 a1 a2 a3 a4 a5 a6 a7 a8 a9).2.1 = fun _ => 1#1) (i : S8x1024x3.Idx) : Laws.IsReal (a1 i) :=
  isReal_of_word (congrFun h i)

/-- of the first matrix's upper rows, -/
theorem real4 (h : (fn a0 a1 a2 a3 a4 a5 a6 a7 a8 a9).2.2.1 = fun _ => 1#1) (k q : Fin 512) :
    Laws.IsReal (a4 (ix2 ⟨k.val, by omega⟩ q)) := by
  refine isReal_of_word (Eq.trans ?_ (congrFun h (ix2 k q)))
  have e : (fun i => ⟨![0, 0] i + ((ix2 k q : S512x512.Idx) i).val, by
      match i with
      | ⟨0, _⟩ => exact (by have := k.isLt; omega : 0 + k.val < 768)
      | ⟨1, _⟩ => exact (by have := q.isLt; omega : 0 + q.val < 512)⟩ : S768x512.Idx) = ix2 ⟨k.val, by omega⟩ q := by
    funext i
    match i with
    | ⟨0, _⟩ => exact Fin.ext (Nat.zero_add _)
    | ⟨1, _⟩ => exact Fin.ext (Nat.zero_add _)
  exact congrArg (fun j => BitVec.ofBool (decide (max (a4 j) (-(a4 j)) < Ideal.ofBits .f32 0x7F800000#32))) e.symm

/-- and of the two scales. -/
theorem real5 (h : (fn a0 a1 a2 a3 a4 a5 a6 a7 a8 a9).2.2.2.1 = fun _ => 1#1) (i : S512.Idx) : Laws.IsReal (a5 i) :=
  isReal_of_word (congrFun h i)

/-- The second scale likewise. -/
theorem real8 (h : (fn a0 a1 a2 a3 a4 a5 a6 a7 a8 a9).2.2.2.2 = fun _ => 1#1) (i : S512.Idx) : Laws.IsReal (a8 i) :=
  isReal_of_word (congrFun h i)

end Cert.Finite

end
-- ==== Proof.KernelRun.lean ====
/- The kernel program's run: it ends, its result array holds what the last boundary holds of it, and the arguments are
   as they were. -/
module

public import proofs.«01_k».proof.Proof.Gen.KernelIdeal.Frame

@[expose] public section

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch of the program's nine segments, read at its end for the result array and the arguments. -/
theorem run : θ_run defs (onTc (τ := τ) (main (F := F))) ⟨m, fun _ => 0, ρ⟩ (fun r => ∀ c : Dev nD,
      r.2.mem ((c.tc : Thread nD τ).loc main_v36) = V9 m ρ c main_v36
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c =>
      have arg : ∀ r ∈ argRefs, ¬ (Proc.devRef .tc r : DevRef τ sig).isScoped →
          s.mem ((c.tc : Thread nD τ).loc r) = m ((c.tc : Thread nD τ).loc r) :=
        fun r hr hs => (h c _ (mem_uc r hs)).trans (W9_args m ρ c r hr)
      ⟨h c _ (mem_uc main_v36 (by decide)), arg main_arg0 (by decide) (by decide), arg main_arg1 (by decide) (by decide),
       arg main_arg2 (by decide) (by decide), arg main_arg3 (by decide) (by decide), arg main_arg4 (by decide) (by decide),
       arg main_arg5 (by decide) (by decide), arg main_arg6 (by decide) (by decide), arg main_arg7 (by decide) (by decide),
       arg main_arg8 (by decide) (by decide), arg main_arg9 (by decide) (by decide)⟩)

end Cert.KernelRun

end
-- ==== Proof.Spec.lean ====
/- What both programs compute, as one function of the arguments and of the three nearest positions of every point. -/
module

public import proofs.«01_k».proof.KernelIdeal
public import proofs.«01_k».proof.Proof.Laws
public import Idealize.ShloMosaic.Lib.Pointwise

@[expose] public section

noncomputable section

namespace Cert.Spec

open Idealize.ShloMosaic Cert.KernelIdeal

/-- The guard under the root. -/
def eps : EReal := Ideal.ofBits .f32 0x3A83126F#32

/-- The least distance a weight is taken of. -/
def floor : EReal := Ideal.ofBits .f32 0x2EDBE6FF#32

/-- The squared distance of point `n` to position `p` in batch `b`: the sums of squares less twice the product. -/
def dist (x1 : FVec Ideal S8x4096x3 .f32) (x2 : FVec Ideal S8x1024x3 .f32) (b : Fin 8) (n : Fin 4096) (p : Fin 1024) : EReal :=
  (∑ k : Fin 3, x1 (ix3 b n k) * x1 (ix3 b n k)) + (∑ k : Fin 3, x2 (ix3 b p k) * x2 (ix3 b p k))
    - Ideal.ofBits .f32 0x40000000#32 * ∑ k : Fin 3, x1 (ix3 b n k) * x2 (ix3 b p k)

/-- The weight of a point's `l`-th nearest position, for the positions `a`. -/
def weight (x1 : FVec Ideal S8x4096x3 .f32) (x2 : FVec Ideal S8x1024x3 .f32) (a : Fin 8 → Fin 4096 → Fin 3 → Fin 1024)
    (b : Fin 8) (n : Fin 4096) (l : Fin 3) : EReal :=
  Laws.weight floor (fun i => dist x1 x2 b n (a b n i)) l

/-- The interpolated features: a point's three nearest rows, weighted. -/
def mixed (x1 : FVec Ideal S8x4096x3 .f32) (x2 : FVec Ideal S8x1024x3 .f32) (P2 : FVec Ideal S8x1024x512 .f32)
    (a : Fin 8 → Fin 4096 → Fin 3 → Fin 1024) (b : Fin 8) (n : Fin 4096) (k : Fin 512) : EReal :=
  ∑ l : Fin 3, P2 (ix3 b (a b n l) k) * weight x1 x2 a b n l

/-- The first layer before its normalisation: the interpolated features and the point's own against the weights. -/
def first (x1 : FVec Ideal S8x4096x3 .f32) (x2 : FVec Ideal S8x1024x3 .f32) (P1 : FVec Ideal S8x4096x256 .f32)
    (P2 : FVec Ideal S8x1024x512 .f32) (W1 : FVec Ideal S768x512 .f32) (a : Fin 8 → Fin 4096 → Fin 3 → Fin 1024)
    (b : Fin 8) (n : Fin 4096) (q : Fin 512) : EReal :=
  (∑ k : Fin 512, mixed x1 x2 P2 a b n k * W1 (ix2 ⟨k.val, by omega⟩ q))
    + ∑ k : Fin 256, P1 (ix3 b n k) * W1 (ix2 ⟨512 + k.val, by omega⟩ q)

/-- A layer normalised over all points of all batches, scaled, shifted, and cut off below zero. -/
def act (γ β : FVec Ideal S512 .f32) (h : Fin 8 → Fin 4096 → Fin 512 → EReal) (b : Fin 8) (n : Fin 4096) (q : Fin 512) : EReal :=
  max (Laws.normalised ((32768 : ℝ) : EReal) eps (γ (ix1 q)) (β (ix1 q)) (fun x : Fin 8 × Fin 4096 => h x.1 x.2 q) (b, n)) 0

/-- The second layer before its normalisation. -/
def second (W2 : FVec Ideal S512x512 .f32) (h : Fin 8 → Fin 4096 → Fin 512 → EReal) (b : Fin 8) (n : Fin 4096) (q : Fin 512) : EReal :=
  ∑ k : Fin 512, h b n k * W2 (ix2 k q)

/-- The result. -/
def result (x1 : FVec Ideal S8x4096x3 .f32) (x2 : FVec Ideal S8x1024x3 .f32) (P1 : FVec Ideal S8x4096x256 .f32)
    (P2 : FVec Ideal S8x1024x512 .f32) (W1 : FVec Ideal S768x512 .f32) (γ1 β1 : FVec Ideal S512 .f32)
    (W2 : FVec Ideal S512x512 .f32) (γ2 β2 : FVec Ideal S512 .f32) (a : Fin 8 → Fin 4096 → Fin 3 → Fin 1024) :
    Fin 8 → Fin 4096 → Fin 512 → EReal :=
  act γ2 β2 (second W2 (act γ1 β1 (first x1 x2 P1 P2 W1 a)))

end Cert.Spec

end
-- ==== Proof.HostValues.lean ====
/- What the kernel program's array operations between its calls leave, read at an index. -/
module

public import proofs.«01_k».proof.Proof.Gen.KernelIdeal.Launch
public import Idealize.ShloMosaic.Lib.Pointwise
public import Idealize.ShloMosaic.Lib.StableHlo.ReadAt

@[expose] public section

set_option maxRecDepth 16384

noncomputable section

namespace Cert.HostValues

open Idealize.ShloMosaic Idealize.ShloMosaic.TcCoe Cert.KernelIdeal Cert.KernelIdeal.Gen

variable (V : Valuation τ sig (Elt Ideal))

/-- The points, coordinates first. -/
theorem v0_at (b : Fin 8) (k : Fin 3) (n : Fin 4096) :
    (StableHlo.after hostOps0 V (Proc.devRef .tc main_v0) : FVec Ideal S8x3x4096 .f32) (ix3 b k n)
      = (V (Proc.devRef .tc main_arg0) : FVec Ideal S8x4096x3 .f32) (ix3 b n k) := by
  after_reads_at

/-- The positions, coordinates first. -/
theorem v1_at (b : Fin 8) (k : Fin 3) (p : Fin 1024) :
    (StableHlo.after hostOps0 V (Proc.devRef .tc main_v1) : FVec Ideal S8x3x1024 .f32) (ix3 b k p)
      = (V (Proc.devRef .tc main_arg1) : FVec Ideal S8x1024x3 .f32) (ix3 b p k) := by
  after_reads_at

/-- The first 512 rows of the first weights. -/
theorem v3_at (k q : Fin 512) :
    (StableHlo.after hostOps1 V (Proc.devRef .tc main_v3) : FVec Ideal S512x512 .f32) (ix2 k q)
      = (V (Proc.devRef .tc main_arg4) : FVec Ideal S768x512 .f32) (ix2 ⟨k.val, by omega⟩ q) := by
  after_reads_at

/-- The other 256. -/
theorem v4_at (k : Fin 256) (q : Fin 512) :
    (StableHlo.after hostOps1 V (Proc.devRef .tc main_v4) : FVec Ideal S256x512 .f32) (ix2 k q)
      = (V (Proc.devRef .tc main_arg4) : FVec Ideal S768x512 .f32) (ix2 ⟨512 + k.val, by omega⟩ q) := by
  after_reads_at

variable (S Q : FVec Ideal S1x512 .f32) (γ β : FVec Ideal S512 .f32)

/-- A column's factor, of its sum and its sum of squares. -/
def scale (q : Fin 512) : EReal :=
  Ideal.div (γ (ix1 q)) (Ideal.sqrt (Ideal.div (Q (ix2 0 q)) (Ideal.ofBits .f32 0x47000000#32)
      - Ideal.div (S (ix2 0 q)) (Ideal.ofBits .f32 0x47000000#32) * Ideal.div (S (ix2 0 q)) (Ideal.ofBits .f32 0x47000000#32)
      + Ideal.ofBits .f32 0x3A83126F#32))

/-- A column's offset. -/
def offset (q : Fin 512) : EReal :=
  β (ix1 q) - Ideal.div (S (ix2 0 q)) (Ideal.ofBits .f32 0x47000000#32) * scale S Q γ q

/-- The first layer's factors. -/
theorem v17_at (hS : V (Proc.devRef .tc main_v6_1) = S) (hQ : V (Proc.devRef .tc main_v6_2) = Q)
    (hγ : V (Proc.devRef .tc main_arg5) = γ) (q : Fin 512) :
    (StableHlo.after hostOps3 V (Proc.devRef .tc main_v17) : FVec Ideal S1x512 .f32) (ix2 0 q) = scale S Q γ q := by
  subst hS hQ hγ
  unfold scale
  after_reads_at

/-- The first layer's offsets. -/
theorem v20_at (hS : V (Proc.devRef .tc main_v6_1) = S) (hQ : V (Proc.devRef .tc main_v6_2) = Q)
    (hγ : V (Proc.devRef .tc main_arg5) = γ) (hβ : V (Proc.devRef .tc main_arg6) = β) (q : Fin 512) :
    (StableHlo.after hostOps3 V (Proc.devRef .tc main_v20) : FVec Ideal S1x512 .f32) (ix2 0 q) = offset S Q γ β q := by
  subst hS hQ hγ hβ
  unfold offset scale
  after_reads_at

/-- The second layer's factors. -/
theorem v32_at (hS : V (Proc.devRef .tc main_v21_1) = S) (hQ : V (Proc.devRef .tc main_v21_2) = Q)
    (hγ : V (Proc.devRef .tc main_arg8) = γ) (q : Fin 512) :
    (StableHlo.after hostOps4 V (Proc.devRef .tc main_v32) : FVec Ideal S1x512 .f32) (ix2 0 q) = scale S Q γ q := by
  subst hS hQ hγ
  unfold scale
  after_reads_at

/-- The second layer's offsets. -/
theorem v35_at (hS : V (Proc.devRef .tc main_v21_1) = S) (hQ : V (Proc.devRef .tc main_v21_2) = Q)
    (hγ : V (Proc.devRef .tc main_arg8) = γ) (hβ : V (Proc.devRef .tc main_arg9) = β) (q : Fin 512) :
    (StableHlo.after hostOps4 V (Proc.devRef .tc main_v35) : FVec Ideal S1x512 .f32) (ix2 0 q) = offset S Q γ β q := by
  subst hS hQ hγ hβ
  unfold offset scale
  after_reads_at

end Cert.HostValues

end
-- ==== Proof.Block.lean ====
/- The first kernel call's body at one block of sixty-four points, written once: the chunks of distances a lane meets,
   the insertion, the three rounds, the weights. The two arrays the generated frame names are put together from it. -/
module

public import proofs.«01_k».proof.Proof.Gen.KernelIdeal.Frame.Region0

@[expose] public section

set_option maxRecDepth 16384

noncomputable section

namespace Cert.Block

open Idealize.ShloMosaic Cert.KernelIdeal Cert.KernelIdeal.Gen

variable {F : FTy → Type} [FloatOps F] [Named F]

/-- The value of a candidate that is not there. -/
def big : F .f32 := Named.named κ "big" 0x7149F2CA#32

/-- What the lanes of a block hold: three sorted values each, and their positions. -/
structure Held (F : FTy → Type) where
  v1 : FVec F S64x128 .f32
  v2 : FVec F S64x128 .f32
  v3 : FVec F S64x128 .f32
  i1 : IVec S64x128 32
  i2 : IVec S64x128 32
  i3 : IVec S64x128 32

/-- The lanes before the first chunk. -/
def start : Held F where
  v1 := broadcast S64x128 big
  v2 := broadcast S64x128 big
  v3 := broadcast S64x128 big
  i1 := broadcast S64x128 0#32
  i2 := broadcast S64x128 0#32
  i3 := broadcast S64x128 0#32

/-- The lanes meet a chunk of distances, one each. -/
def meet (s : Held F) (x : FVec F S64x128 .f32) (i : IVec S64x128 32) : Held F where
  v1 := select (cmpf .olt x s.v1) x s.v1
  v2 := select (cmpf .olt x s.v1) s.v1 (select (cmpf .olt x s.v2) x s.v2)
  v3 := select (cmpf .olt x s.v2) s.v2 (select (cmpf .olt x s.v3) x s.v3)
  i1 := select (cmpf .olt x s.v1) i s.i1
  i2 := select (cmpf .olt x s.v1) s.i1 (select (cmpf .olt x s.v2) i s.i2)
  i3 := select (cmpf .olt x s.v2) s.i2 (select (cmpf .olt x s.v3) i s.i3)

theorem chunk_slices (c : Fin 8) : S64x1024.Slices ![0, 128 * c.val] S64x128 := by
  revert c; decide +kernel

/-- Chunk `c` of a block's distances. -/
def chunk (D : FVec F S64x1024 .f32) (c : Fin 8) : FVec F S64x128 .f32 :=
  extractStridedSlice S64x128 ![0, 128 * c.val] D (chunk_slices c)

/-- The positions of chunk `c`. -/
def places (c : Fin 8) : IVec S64x128 32 :=
  addi (iota .tc S64x128 32 [1] iota_S64x128_d1_w32) (broadcast S64x128 (BitVec.ofNat 32 (128 * c.val)))

/-- The lanes after all eight chunks. -/
def held (D : FVec F S64x1024 .f32) : Held F :=
  let s0 := meet start (chunk D 0) (places 0)
  let s1 := meet s0 (chunk D 1) (places 1)
  let s2 := meet s1 (chunk D 2) (places 2)
  let s3 := meet s2 (chunk D 3) (places 3)
  let s4 := meet s3 (chunk D 4) (places 4)
  let s5 := meet s4 (chunk D 5) (places 5)
  let s6 := meet s5 (chunk D 6) (places 6)
  meet s6 (chunk D 7) (places 7)

/-- The candidates' values: the lanes' three, side by side. -/
def vals (D : FVec F S64x1024 .f32) : FVec F S64x384 .f32 :=
  concatenate S64x384 1 [⟨S64x128, (held D).v1⟩, ⟨S64x128, (held D).v2⟩, ⟨S64x128, (held D).v3⟩]
    concatenates_S64x128_S64x128_S64x128_S64x384_d1

/-- The candidates' positions. -/
def poss (D : FVec F S64x1024 .f32) : IVec S64x384 32 :=
  concatenate S64x384 1 [⟨S64x128, (held D).i1⟩, ⟨S64x128, (held D).i2⟩, ⟨S64x128, (held D).i3⟩]
    concatenates_S64x128_S64x128_S64x128_S64x384_d1

/-- The least value of every point's candidates. -/
def best (v : FVec F S64x384 .f32) : FVec F S64x1 .f32 :=
  shapeCast S64x1 (multiReduction .minimumf [1] S64 v 0x7F800000#32 reduces_S64x384_S64 (.inl rfl) rfl) shapeCasts_S64_S64x1

/-- The least position among the candidates of that value. -/
def bestAt (iv : IVec S64x384 32) (v : FVec F S64x384 .f32) : IVec S64 32 :=
  multiReductionI .minsi [1] S64
    (select (cmpf .oeq v (broadcastTo S64x384 (best v) broadcasts_S64x1_S64x384)) iv (broadcast S64x384 1024#32))
    2147483647#32 reduces_S64x384_S64 rfl

/-- The candidates' values after that position is taken. -/
def taken (iv : IVec S64x384 32) (v : FVec F S64x384 .f32) : FVec F S64x384 .f32 :=
  select (cmpi .eq iv (broadcastTo S64x384 (shapeCast S64x1 (bestAt iv v) shapeCasts_S64_S64x1) broadcasts_S64x1_S64x384))
    (broadcast S64x384 big) v

/-- The candidates' values at the start of round `k`. -/
def valsAt (D : FVec F S64x1024 .f32) : ℕ → FVec F S64x384 .f32
  | 0 => vals D
  | k + 1 => taken (poss D) (valsAt D k)

/-- The distance found in round `k`, a row of points. -/
def distAt (D : FVec F S64x1024 .f32) (k : ℕ) : FVec F S1x64 .f32 :=
  shapeCast S1x64 (shapeCast S64 (best (valsAt D k)) shapeCasts_S64x1_S64) shapeCasts_S64_S1x64

/-- The position found in round `k`, as it is stored. -/
def idxAt (D : FVec F S64x1024 .f32) (k : ℕ) : IVec S1x1x64 32 :=
  shapeCast S1x1x64 (bestAt (poss D) (valsAt D k)) shapeCasts_S64_S1x1x64

/-- The inverse floored distances. -/
def inverse (D : FVec F S64x1024 .f32) : FVec F S3x64 .f32 :=
  divf (broadcast S3x64 (Scalar.ofBits .f32 0x3F800000#32))
    (maximumf
      (concatenate S3x64 0 [⟨S1x64, distAt D 0⟩, ⟨S1x64, distAt D 1⟩, ⟨S1x64, distAt D 2⟩] concatenates_S1x64_S1x64_S1x64_S3x64_d0)
      (broadcast S3x64 (Scalar.ofBits .f32 0x2EDBE6FF#32)))

/-- The weights, as they are stored. -/
def weights (D : FVec F S64x1024 .f32) : FVec F S1x3x64 .f32 :=
  shapeCast S1x3x64
    (divf (inverse D)
      (broadcastTo S3x64
        (shapeCast S1x64 (multiReduction .add [0] S64 (inverse D) 0x00000000#32 reduces_S3x64_S64 (.inl rfl) rfl) shapeCasts_S64_S1x64)
        broadcasts_S1x64_S3x64))
    shapeCasts_S3x64_S1x3x64

theorem rows_slices (r : Fin 8) : S512x1024.Slices ![64 * r.val, 0] S64x1024 := by
  revert r; decide +kernel

/-- The distances of block `r`: its sixty-four rows. -/
def rows (D : FVec F S512x1024 .f32) (r : Fin 8) : FVec F S64x1024 .f32 :=
  extractStridedSlice S64x1024 ![64 * r.val, 0] D (rows_slices r)

theorem inb2 (r : Fin 8) (k : Fin 3) : ∀ a, (![0, k.val, 64 * r.val] : Fin 3 → ℕ) a + S1x1x64.size a ≤ S1x3x512.size a := by
  revert r k; decide +kernel

theorem inb3 (r : Fin 8) : ∀ a, (![0, 0, 64 * r.val] : Fin 3 → ℕ) a + S1x3x64.size a ≤ S1x3x512.size a := by
  revert r; decide +kernel

/-- The store of block `r`'s weights. -/
def piece3 (D : FVec F S512x1024 .f32) (r : Fin 8) : View.Piece (Elt F) S1x3x512 .f32 :=
  ⟨Rect.unit (s := S1x3x512) ![0, 0, 64 * r.val] S1x3x64.size (inb3 r), weights (rows D r)⟩

/-- The store of block `r`'s positions of round `k`. -/
def piece2 (D : FVec F S512x1024 .f32) (r : Fin 8) (k : Fin 3) : View.Piece (Elt F) S1x3x512 .i32 :=
  ⟨Rect.unit (s := S1x3x512) ![0, k.val, 64 * r.val] S1x1x64.size (inb2 r k), idxAt (rows D r) k.val⟩

/-- The distances of a tile of points. -/
abbrev dist (x0 : Vec F S1x3x512 .f32) (x1 : Vec F S1x3x1024 .f32) : FVec F S512x1024 .f32 :=
  k0_pay2 (View.ld x0 r0_0) (View.ld x1 r0_1)

/-- The stores of the positions, last first. -/
def pieces2 (D : FVec F S512x1024 .f32) : List (View.Piece (Elt F) S1x3x512 .i32) :=
  [7, 6, 5, 4, 3, 2, 1, 0].flatMap fun r => [2, 1, 0].map fun k => piece2 D r k

/-- The stores of the weights, last first. -/
def pieces3 (D : FVec F S512x1024 .f32) : List (View.Piece (Elt F) S1x3x512 .f32) :=
  [7, 6, 5, 4, 3, 2, 1, 0].map fun r => piece3 D r

/-- What the body leaves in the positions' buffer is its stores of every block's positions. -/
theorem out2_eq (x0 : Vec F S1x3x512 .f32) (x1 : Vec F S1x3x1024 .f32) :
    out0_2 x0 x1 = View.canon (pieces2 (dist x0 x1)) := rfl

/-- What the body leaves in the weights' buffer is its stores of every block's weights. -/
theorem out3_eq (x0 : Vec F S1x3x512 .f32) (x1 : Vec F S1x3x1024 .f32) :
    out0_3 x0 x1 = View.canon (pieces3 (dist x0 x1)) := rfl

end Cert.Block

end
-- ==== Proof.Top3.lean ====
/- The mathematics of the three nearest: what the lane-by-lane insertion, the three rounds over the candidates and a
   stable sort each select, as facts about functions into the extended reals. -/
module

public import Idealize.ShloMosaic.PureOps
public import Idealize.ShloMosaic.Lib.SortFacts
public import Idealize.ShloMosaic.Lib.SortPrefix
public import Mathlib.Data.Prod.Lex
public import Mathlib.Data.EReal.Basic

@[expose] public section

noncomputable section

namespace Cert.Top3

open Idealize.ShloMosaic

/-! ## The order: by distance, then by position -/

/-- A position with its distance in front: comparing keys compares distances, and positions where distances tie. -/
def key {ι : Type} (d : ι → EReal) (i : ι) : Lex (EReal × ι) := toLex (d i, i)

theorem key_lt {ι : Type} [LinearOrder ι] {d : ι → EReal} {a b : ι} :
    key d a < key d b ↔ d a < d b ∨ (d a = d b ∧ a < b) := Prod.Lex.toLex_lt_toLex

theorem key_le {ι : Type} [LinearOrder ι] {d : ι → EReal} {a b : ι} :
    key d a ≤ key d b ↔ d a < d b ∨ (d a = d b ∧ a ≤ b) := Prod.Lex.toLex_le_toLex

theorem key_inj {ι : Type} {d : ι → EReal} {a b : ι} (h : key d a = key d b) : a = b := congrArg (fun x => (ofLex x).2) h

/-- The three nearest of the 1024 positions, nearest first; a tie goes to the lower position. -/
structure Nearest (d : Fin 1024 → EReal) (a : Fin 3 → Fin 1024) : Prop where
  fst : key d (a 0) < key d (a 1)
  snd : key d (a 1) < key d (a 2)
  rest : ∀ p, p = a 0 ∨ p = a 1 ∨ p = a 2 ∨ key d (a 2) < key d p

/-- The three nearest are three. -/
theorem Nearest.injective {d : Fin 1024 → EReal} {a : Fin 3 → Fin 1024} (h : Nearest d a) : Function.Injective a := by
  intro i j hij
  have e := congrArg (key d) hij
  have h1 := h.fst.ne; have h2 := h.snd.ne; have h3 := (h.fst.trans h.snd).ne
  match i, j with
  | 0, 0 => rfl
  | 1, 1 => rfl
  | 2, 2 => rfl
  | 0, 1 => exact absurd e h1
  | 1, 0 => exact absurd e.symm h1
  | 1, 2 => exact absurd e h2
  | 2, 1 => exact absurd e.symm h2
  | 0, 2 => exact absurd e h3
  | 2, 0 => exact absurd e.symm h3

/-! ## One lane: inserting into a sorted triple -/

/-- The three smallest values a lane has met, with their positions. -/
structure Lane where
  v1 : EReal
  v2 : EReal
  v3 : EReal
  i1 : BitVec 32
  i2 : BitVec 32
  i3 : BitVec 32

/-- A lane meets one more value. -/
def Lane.step (s : Lane) (x : EReal) (i : BitVec 32) : Lane where
  v1 := if x < s.v1 then x else s.v1
  v2 := if x < s.v1 then s.v1 else if x < s.v2 then x else s.v2
  v3 := if x < s.v2 then s.v2 else if x < s.v3 then x else s.v3
  i1 := if x < s.v1 then i else s.i1
  i2 := if x < s.v1 then s.i1 else if x < s.v2 then i else s.i2
  i3 := if x < s.v2 then s.i2 else if x < s.v3 then i else s.i3

/-- A lane that has met nothing. -/
def Lane.start : Lane := ⟨⊤, ⊤, ⊤, 0#32, 0#32, 0#32⟩

/-- The lane after its first `k` values. -/
def Lane.after (e : ℕ → EReal) (ix : ℕ → BitVec 32) : ℕ → Lane
  | 0 => Lane.start
  | k + 1 => (Lane.after e ix k).step (e k) (ix k)

/-- The lane `s` holds `c1`, `c2`, `c3`, the three least of the first `k` positions and of the positions from 8 on,
    which stand for the values it starts with. -/
structure Holds (e : ℕ → EReal) (ix : ℕ → BitVec 32) (k : ℕ) (s : Lane) (c1 c2 c3 : ℕ) : Prop where
  h12 : key e c1 < key e c2
  h23 : key e c2 < key e c3
  v1 : s.v1 = e c1
  v2 : s.v2 = e c2
  v3 : s.v3 = e c3
  i1 : s.i1 = ix c1
  i2 : s.i2 = ix c2
  i3 : s.i3 = ix c3
  m1 : c1 < k ∨ 8 ≤ c1
  m2 : c2 < k ∨ 8 ≤ c2
  m3 : c3 < k ∨ 8 ≤ c3
  rest : ∀ c, c < k ∨ 8 ≤ c → c = c1 ∨ c = c2 ∨ c = c3 ∨ key e c3 < key e c

section lane

variable {e : ℕ → EReal} {ix : ℕ → BitVec 32} (htop : ∀ c, 8 ≤ c → e c = ⊤) (hix : ∀ c, 8 ≤ c → ix c = 0#32)
  (hfin : ∀ c, c < 8 → e c < ⊤)

include htop hix in
/-- At the start the lane holds three of the positions that stand for nothing. -/
theorem holds_start : Holds e ix 0 Lane.start 8 9 10 := by
  have t8 := htop 8 (by norm_num); have t9 := htop 9 (by norm_num); have t10 := htop 10 (by norm_num)
  have x8 := hix 8 (by norm_num); have x9 := hix 9 (by norm_num); have x10 := hix 10 (by norm_num)
  refine ⟨?_, ?_, ?_, ?_, ?_, ?_, ?_, ?_, ?_, ?_, ?_, ?_⟩
  · exact key_lt.mpr (Or.inr ⟨t8.trans t9.symm, by norm_num⟩)
  · exact key_lt.mpr (Or.inr ⟨t9.trans t10.symm, by norm_num⟩)
  any_goals simp [Lane.start, *]
  intro c hc
  by_cases h : c ≤ 10
  · omega
  · exact Or.inr (Or.inr (Or.inr (key_lt.mpr (Or.inr ⟨t10.trans (htop c hc).symm, by omega⟩))))

include htop hfin in
/-- A position not met yet is before a held one exactly if its value is strictly less. -/
theorem lt_iff_key {k c : ℕ} (hk : k < 8) (hc : c < k ∨ 8 ≤ c) : e k < e c ↔ key e k < key e c := by
  rw [key_lt]
  refine ⟨Or.inl, fun h => h.resolve_right ?_⟩
  rintro ⟨he, hlt⟩
  rcases hc with h | h
  · omega
  · exact absurd (he.trans (htop c h)) (hfin k hk).ne

include htop hfin in
/-- Meeting one more value keeps the three least. -/
theorem holds_step {k : ℕ} (hk : k < 8) {s : Lane} {c1 c2 c3 : ℕ} (h : Holds e ix k s c1 c2 c3) :
    ∃ a b c, Holds e ix (k + 1) (s.step (e k) (ix k)) a b c := by
  have l1 := lt_iff_key htop hfin hk h.m1
  have l2 := lt_iff_key htop hfin hk h.m2
  have l3 := lt_iff_key htop hfin hk h.m3
  have ne : ∀ {c}, (c < k ∨ 8 ≤ c) → key e k ≠ key e c := fun hc he => by have := key_inj he; omega
  have old : ∀ c, (c < k + 1 ∨ 8 ≤ c) → c = k ∨ (c < k ∨ 8 ≤ c) := by omega
  have w : ∀ {c}, (c < k ∨ 8 ≤ c) → c < k + 1 ∨ 8 ≤ c := by omega
  by_cases b1 : key e k < key e c1
  · have b2 := b1.trans h.h12
    refine ⟨k, c1, c2, b1, h.h12, ?_, ?_, ?_, ?_, ?_, ?_, Or.inl (Nat.lt_succ_self k), w h.m1, w h.m2, fun c hc => ?_⟩
    any_goals simp [Lane.step, h.v1, h.v2, h.v3, h.i1, h.i2, h.i3, l1.mpr b1, l2.mpr b2]
    rcases old c hc with rfl | hc
    · exact Or.inl rfl
    · rcases h.rest c hc with r | r | r | r
      · exact Or.inr (Or.inl r)
      · exact Or.inr (Or.inr (Or.inl r))
      · exact Or.inr (Or.inr (Or.inr (r ▸ h.h23)))
      · exact Or.inr (Or.inr (Or.inr (h.h23.trans r)))
  have g1 : key e c1 < key e k := lt_of_le_of_ne (not_lt.mp b1) (ne h.m1).symm
  have n1 : ¬ e k < e c1 := fun hh => b1 (l1.mp hh)
  by_cases b2 : key e k < key e c2
  · refine ⟨c1, k, c2, g1, b2, ?_, ?_, ?_, ?_, ?_, ?_, w h.m1, Or.inl (Nat.lt_succ_self k), w h.m2, fun c hc => ?_⟩
    any_goals simp [Lane.step, h.v1, h.v2, h.v3, h.i1, h.i2, h.i3, n1, l2.mpr b2]
    rcases old c hc with rfl | hc
    · exact Or.inr (Or.inl rfl)
    · rcases h.rest c hc with r | r | r | r
      · exact Or.inl r
      · exact Or.inr (Or.inr (Or.inl r))
      · exact Or.inr (Or.inr (Or.inr (r ▸ h.h23)))
      · exact Or.inr (Or.inr (Or.inr (h.h23.trans r)))
  have g2 : key e c2 < key e k := lt_of_le_of_ne (not_lt.mp b2) (ne h.m2).symm
  have n2 : ¬ e k < e c2 := fun hh => b2 (l2.mp hh)
  by_cases b3 : key e k < key e c3
  · refine ⟨c1, c2, k, h.h12, g2, ?_, ?_, ?_, ?_, ?_, ?_, w h.m1, w h.m2, Or.inl (Nat.lt_succ_self k), fun c hc => ?_⟩
    any_goals simp [Lane.step, h.v1, h.v2, h.v3, h.i1, h.i2, h.i3, n1, n2, l3.mpr b3]
    rcases old c hc with rfl | hc
    · exact Or.inr (Or.inr (Or.inl rfl))
    · rcases h.rest c hc with r | r | r | r
      · exact Or.inl r
      · exact Or.inr (Or.inl r)
      · exact Or.inr (Or.inr (Or.inr (r ▸ b3)))
      · exact Or.inr (Or.inr (Or.inr (b3.trans r)))
  have g3 : key e c3 < key e k := lt_of_le_of_ne (not_lt.mp b3) (ne h.m3).symm
  have n3 : ¬ e k < e c3 := fun hh => b3 (l3.mp hh)
  refine ⟨c1, c2, c3, h.h12, h.h23, ?_, ?_, ?_, ?_, ?_, ?_, w h.m1, w h.m2, w h.m3, fun c hc => ?_⟩
  any_goals simp [Lane.step, h.v1, h.v2, h.v3, h.i1, h.i2, h.i3, n1, n2, n3]
  rcases old c hc with rfl | hc
  · exact Or.inr (Or.inr (Or.inr g3))
  · exact h.rest c hc

include htop hix hfin in
theorem exists_holds (k : ℕ) (hk : k ≤ 8) : ∃ a b c, Holds e ix k (Lane.after e ix k) a b c := by
  induction k with
  | zero => exact ⟨_, _, _, holds_start htop hix⟩
  | succ k ih =>
    obtain ⟨a, b, c, h⟩ := ih (by omega)
    exact holds_step htop hfin (by omega) h

include htop hix hfin in
/-- After its eight values the lane holds three of them, and every other is after all three. -/
theorem lane_final : ∃ a b c, Holds e ix 8 (Lane.after e ix 8) a b c ∧ a < 8 ∧ b < 8 ∧ c < 8 := by
  obtain ⟨a, b, c, h⟩ := exists_holds htop hix hfin 8 le_rfl
  have hc : c < 8 := by
    by_contra hc
    have out : ∀ p, p < 8 → p = a ∨ p = b := fun p hp => by
      rcases h.rest p (Or.inl hp) with r | r | r | r
      · exact Or.inl r
      · exact Or.inr r
      · omega
      · rcases key_lt.mp r with r | r
        · rw [htop c (by omega)] at r; exact absurd r not_top_lt
        · exact absurd (r.1.symm.trans (htop c (by omega))) (hfin p hp).ne
    have := out 0 (by norm_num); have := out 1 (by norm_num); have := out 2 (by norm_num); omega
  have down : ∀ {p q}, key e p < key e q → q < 8 → p < 8 := fun {p q} hpq hq => by
    by_contra hp
    rcases key_lt.mp hpq with r | r
    · rw [htop p (by omega)] at r; exact absurd r not_top_lt
    · exact absurd (r.1.symm.trans (htop p (by omega))) (hfin q hq).ne
  have hb := down h.h23 hc
  exact ⟨a, b, c, h, down h.h12 hb, hb, hc⟩

end lane

/-! ## The rounds over the candidates -/

/-- A fold by an operation that picks one of its two operands yields the first value or one of the folded ones. -/
theorem fold_mem {α J : Type} [Fintype J] (op : α → α → α) [Std.Commutative op] [Std.Associative op]
    (hop : ∀ a b, op a b = a ∨ op a b = b) (b : α) (f : J → α) :
    Finset.univ.fold op b f = b ∨ ∃ j, Finset.univ.fold op b f = f j := by
  classical
  have : ∀ s : Finset J, s.fold op b f = b ∨ ∃ j, s.fold op b f = f j := fun s => by
    induction s using Finset.induction_on with
    | empty => exact Or.inl (Finset.fold_empty)
    | insert a s ha ih =>
      rw [Finset.fold_insert ha]
      rcases hop (f a) (s.fold op b f) with h | h
      · exact Or.inr ⟨a, h⟩
      · rw [h]; exact ih
  exact this _

/-- Such a fold is below every folded value, in any order the operation goes down in. -/
theorem fold_le {α J : Type} [Fintype J] (op : α → α → α) [Std.Commutative op] [Std.Associative op] (r : α → ℤ)
    (hl : ∀ a b, r (op a b) ≤ r a) (hr : ∀ a b, r (op a b) ≤ r b) (b : α) (f : J → α) (j : J) :
    r (Finset.univ.fold op b f) ≤ r (f j) := by
  classical
  have : ∀ s : Finset J, j ∈ s → r (s.fold op b f) ≤ r (f j) := fun s => by
    induction s using Finset.induction_on with
    | empty => intro h; exact absurd h (Finset.notMem_empty j)
    | insert a s ha ih =>
      intro h
      rw [Finset.fold_insert ha]
      rcases Finset.mem_insert.mp h with rfl | h
      · exact hl _ _
      · exact (hr _ _).trans (ih h)
  exact this _ (Finset.mem_univ j)

/-- The least value of the candidates. -/
def least {J : Type} [Fintype J] (v : J → EReal) : EReal := Finset.univ.fold min ⊤ v

/-- The least position among the candidates of the least value. -/
def leastAt {J : Type} [Fintype J] (op : BitVec 32 → BitVec 32 → BitVec 32) [Std.Commutative op] [Std.Associative op]
    (iv : J → BitVec 32) (v : J → EReal) : BitVec 32 :=
  Finset.univ.fold op 2147483647#32 fun j => if v j = least v then iv j else 1024#32

/-- One round: with some candidate not taken, the least value left is at the candidate least in the order by
    distance and position, and the least position among the candidates of that value is its position. -/
theorem round {J : Type} [Fintype J] (op : BitVec 32 → BitVec 32 → BitVec 32) [Std.Commutative op] [Std.Associative op]
    (hop : ∀ a b, op a b = a ∨ op a b = b) (hl : ∀ a b, (op a b).toInt ≤ a.toInt) (hr : ∀ a b, (op a b).toInt ≤ b.toInt)
    (d : Fin 1024 → EReal) (hfin : ∀ p, d p < ⊤) (idx : J → Fin 1024) (T : Fin 1024 → Prop) [DecidablePred T]
    (v : J → EReal) (hv : ∀ j, v j = if T (idx j) then ⊤ else d (idx j)) (hex : ∃ j, ¬ T (idx j)) :
    ∃ j0, ¬ T (idx j0) ∧ least v = d (idx j0) ∧
      leastAt op (fun j => BitVec.ofNat 32 (idx j).val) v = BitVec.ofNat 32 (idx j0).val ∧
      ∀ j, ¬ T (idx j) → key d (idx j0) ≤ key d (idx j) := by
  obtain ⟨j1, hj1⟩ := hex
  rw [leastAt]
  set m := least v with hm
  have hle : ∀ j, m ≤ v j := fun j => by
    have := (Finset.le_fold_min (s := Finset.univ) (f := v) (b := ⊤) m).mp le_rfl
    exact this.2 j (Finset.mem_univ j)
  have hmt : m < ⊤ := (hle j1).trans_lt (by rw [hv, if_neg hj1]; exact hfin _)
  obtain ⟨j2, hj2⟩ : ∃ j, m = v j := by
    rcases fold_mem min (fun a b => min_choice a b) ⊤ v with h | h
    · exact absurd (hm.trans h) hmt.ne
    · exact h
  have toI : ∀ p : Fin 1024, (BitVec.ofNat 32 p.val).toInt = p.val := fun p => by
    have := p.isLt
    have hn : (BitVec.ofNat 32 p.val).toNat = p.val := by rw [BitVec.toNat_ofNat]; omega
    rw [BitVec.toInt_eq_toNat_of_lt (by omega), hn]
  set g : J → BitVec 32 := fun j => if v j = m then BitVec.ofNat 32 (idx j).val else 1024#32 with hg
  have hlow : ∀ j, (Finset.univ.fold op 2147483647#32 g).toInt ≤ (g j).toInt := fun j =>
    fold_le op BitVec.toInt hl hr _ g j
  have g2 : g j2 = BitVec.ofNat 32 (idx j2).val := by simp only [hg]; rw [if_pos hj2.symm]
  have hlt2 : (Finset.univ.fold op 2147483647#32 g).toInt < 1024 := by
    have := hlow j2
    rw [g2, toI] at this
    have := (idx j2).isLt
    omega
  obtain ⟨j0, hj0⟩ : ∃ j, Finset.univ.fold op 2147483647#32 g = g j := by
    rcases fold_mem op hop 2147483647#32 g with h | h
    · rw [h] at hlt2; exact absurd hlt2 (by decide)
    · exact h
  have v0 : v j0 = m := by
    by_contra hne
    rw [hj0] at hlt2
    simp only [hg, if_neg hne] at hlt2
    exact absurd hlt2 (by decide)
  have g0 : g j0 = BitVec.ofNat 32 (idx j0).val := by simp only [hg]; rw [if_pos v0]
  have nT : ∀ j, v j = m → ¬ T (idx j) := fun j hj ht => by
    rw [hv, if_pos ht] at hj
    exact absurd hj.symm hmt.ne
  have d0 : d (idx j0) = m := by rw [← v0, hv, if_neg (nT j0 v0)]
  refine ⟨j0, nT j0 v0, d0.symm, hj0.trans g0, fun j hj => ?_⟩
  have vj : v j = d (idx j) := by rw [hv, if_neg hj]
  rw [key_le]
  rcases lt_or_eq_of_le (hle j) with h | h
  · exact Or.inl (by rw [d0, ← vj]; exact h)
  · refine Or.inr ⟨by rw [d0, ← vj]; exact h, ?_⟩
    have := hlow j
    have gj : g j = BitVec.ofNat 32 (idx j).val := by simp only [hg]; rw [if_pos h.symm]
    rw [hj0, g0, gj, toI, toI] at this
    exact Fin.le_def.mpr (by omega)

/-- Positions below 1024 are equal if their 32-bit words are. -/
theorem word_inj {p q : Fin 1024} : BitVec.ofNat 32 p.val = BitVec.ofNat 32 q.val ↔ p = q := by
  refine ⟨fun h => ?_, fun h => h ▸ rfl⟩
  have := congrArg BitVec.toNat h
  have hp := p.isLt; have hq := q.isLt
  simp only [BitVec.toNat_ofNat] at this
  exact Fin.ext (by omega)

/-- The candidates' values after the one at position `s` is taken. -/
def mask {J : Type} (iv : J → BitVec 32) (v : J → EReal) (s : BitVec 32) : J → EReal :=
  fun j => if iv j = s then ⊤ else v j

/-- The candidates' values at the start of round `k`. -/
def valsAt {J : Type} [Fintype J] (op : BitVec 32 → BitVec 32 → BitVec 32) [Std.Commutative op] [Std.Associative op]
    (iv : J → BitVec 32) (v : J → EReal) : ℕ → J → EReal
  | 0 => v
  | k + 1 => mask iv (valsAt op iv v k) (leastAt op iv (valsAt op iv v k))

/-- Three rounds over candidates select the three nearest of all positions, if among the candidates, two positions set
    aside, some one is no later than any position not set aside. -/
theorem rounds {J : Type} [Fintype J] (op : BitVec 32 → BitVec 32 → BitVec 32) [Std.Commutative op] [Std.Associative op]
    (hop : ∀ a b, op a b = a ∨ op a b = b) (hl : ∀ a b, (op a b).toInt ≤ a.toInt) (hr : ∀ a b, (op a b).toInt ≤ b.toInt)
    (d : Fin 1024 → EReal) (hfin : ∀ p, d p < ⊤) (idx : J → Fin 1024)
    (hcov : ∀ x y p : Fin 1024, p ≠ x → p ≠ y → ∃ j, idx j ≠ x ∧ idx j ≠ y ∧ key d (idx j) ≤ key d p)
    (iv : J → BitVec 32) (hiv : ∀ j, iv j = BitVec.ofNat 32 (idx j).val) (v : J → EReal) (hv : ∀ j, v j = d (idx j)) :
    ∃ a : Fin 3 → Fin 1024, Nearest d a ∧
      ∀ k : Fin 3, least (valsAt op iv v k) = d (a k) ∧ leastAt op iv (valsAt op iv v k) = BitVec.ofNat 32 (a k).val := by
  obtain rfl : iv = fun j => BitVec.ofNat 32 (idx j).val := funext hiv
  have some : ∀ x y : Fin 1024, ∃ j, idx j ≠ x ∧ idx j ≠ y := fun x y => by
    obtain ⟨p, hx, hy⟩ : ∃ p : Fin 1024, p ≠ x ∧ p ≠ y := by
      by_cases h0 : (0 : Fin 1024) ≠ x ∧ (0 : Fin 1024) ≠ y
      · exact ⟨0, h0⟩
      by_cases h1 : (1 : Fin 1024) ≠ x ∧ (1 : Fin 1024) ≠ y
      · exact ⟨1, h1⟩
      refine ⟨2, ?_⟩
      simp only [ne_eq, Fin.ext_iff] at *
      simp at *
      omega
    obtain ⟨j, h1, h2, _⟩ := hcov x y p hx hy
    exact ⟨j, h1, h2⟩
  obtain ⟨j0, -, m0, s0, r0⟩ := round op hop hl hr d hfin idx (fun _ => False) v (fun j => by simp [hv])
    (by obtain ⟨j, _⟩ := some 0 0; exact ⟨j, id⟩)
  have v1 : ∀ j, valsAt op (fun j => BitVec.ofNat 32 (idx j).val) v 1 j
      = if idx j = idx j0 then ⊤ else d (idx j) := fun j => by
    show (if _ = leastAt op _ v then ⊤ else v j) = _
    rw [s0, hv]
    simp only [word_inj]
  obtain ⟨j1, n1, m1, s1, r1⟩ := round op hop hl hr d hfin idx (fun p => p = idx j0) _ v1
    (by obtain ⟨j, h, _⟩ := some (idx j0) (idx j0); exact ⟨j, h⟩)
  have v2 : ∀ j, valsAt op (fun j => BitVec.ofNat 32 (idx j).val) v 2 j
      = if idx j = idx j0 ∨ idx j = idx j1 then ⊤ else d (idx j) := fun j => by
    show (if _ = leastAt op _ (valsAt op _ v 1) then ⊤ else valsAt op _ v 1 j) = _
    rw [s1, v1]
    simp only [word_inj]
    by_cases h0 : idx j = idx j0 <;> by_cases h1 : idx j = idx j1 <;> simp [h0, h1]
  obtain ⟨j2, n2, m2, s2, r2⟩ := round op hop hl hr d hfin idx (fun p => p = idx j0 ∨ p = idx j1) _ v2
    (by obtain ⟨j, h, h'⟩ := some (idx j0) (idx j1); exact ⟨j, not_or.mpr ⟨h, h'⟩⟩)
  rw [not_or] at n2
  refine ⟨![idx j0, idx j1, idx j2], ⟨?_, ?_, fun p => ?_⟩, fun k => ?_⟩
  · exact lt_of_le_of_ne (r0 j1 id) fun h => n1 (key_inj h).symm
  · exact lt_of_le_of_ne (r1 j2 n2.1) fun h => n2.2 (key_inj h).symm
  · by_cases h0 : p = idx j0
    · exact Or.inl h0
    by_cases h1 : p = idx j1
    · exact Or.inr (Or.inl h1)
    by_cases h2 : p = idx j2
    · exact Or.inr (Or.inr (Or.inl h2))
    obtain ⟨j, hx, hy, hle⟩ := hcov _ _ p h0 h1
    exact Or.inr (Or.inr (Or.inr (lt_of_le_of_ne ((r2 j (not_or.mpr ⟨hx, hy⟩)).trans hle) fun h => h2 (key_inj h).symm)))
  · match k with
    | 0 => exact ⟨m0, s0⟩
    | 1 => exact ⟨m1, s1⟩
    | 2 => exact ⟨m2, s2⟩

/-! ## Lanes and rounds together -/

/-- The values lane `l` meets: every 128th distance; nothing from the eighth on. -/
def laneVal (d : Fin 1024 → EReal) (l : Fin 128) (c : ℕ) : EReal :=
  if h : c < 8 then d ⟨128 * c + l.val, by omega⟩ else ⊤

/-- The positions lane `l` meets. -/
def laneIx (l : Fin 128) (c : ℕ) : BitVec 32 := if c < 8 then BitVec.ofNat 32 (128 * c + l.val) else 0#32

/-- What lane `l` holds at the end. -/
def lane (d : Fin 1024 → EReal) (l : Fin 128) : Lane := Lane.after (laneVal d l) (laneIx l) 8

/-- The slot of a lane. -/
def Lane.val (s : Lane) : Fin 3 → EReal := ![s.v1, s.v2, s.v3]
def Lane.ix (s : Lane) : Fin 3 → BitVec 32 := ![s.i1, s.i2, s.i3]

/-- Three rounds over what the 128 lanes hold select the three nearest. -/
theorem lanes_rounds (op : BitVec 32 → BitVec 32 → BitVec 32) [Std.Commutative op] [Std.Associative op]
    (hop : ∀ a b, op a b = a ∨ op a b = b) (hl : ∀ a b, (op a b).toInt ≤ a.toInt) (hr : ∀ a b, (op a b).toInt ≤ b.toInt)
    (d : Fin 1024 → EReal) (hfin : ∀ p, d p < ⊤) {J : Type} [Fintype J] (slot : J → Fin 3) (ln : J → Fin 128)
    (hsurj : ∀ m l, ∃ j, slot j = m ∧ ln j = l) (iv : J → BitVec 32) (v : J → EReal)
    (hiv : ∀ j, iv j = (lane d (ln j)).ix (slot j)) (hv : ∀ j, v j = (lane d (ln j)).val (slot j)) :
    ∃ a : Fin 3 → Fin 1024, Nearest d a ∧
      ∀ k : Fin 3, least (valsAt op iv v k) = d (a k) ∧ leastAt op iv (valsAt op iv v k) = BitVec.ofNat 32 (a k).val := by
  have fin : ∀ l, ∃ a b c, Holds (laneVal d l) (laneIx l) 8 (lane d l) a b c ∧ a < 8 ∧ b < 8 ∧ c < 8 := fun l =>
    lane_final (fun c hc => dif_neg (by omega)) (fun c hc => if_neg (by omega))
      (fun c hc => by rw [laneVal, dif_pos hc]; exact hfin _)
  choose a b c hh ha hb hc using fin
  let pos : Fin 3 → Fin 128 → Fin 1024 := fun m l =>
    ⟨128 * (![a l, b l, c l] m) + l.val, by
      have := ha l; have := hb l; have := hc l; have := l.isLt
      match m with
      | 0 => show 128 * a l + l.val < 1024; omega
      | 1 => show 128 * b l + l.val < 1024; omega
      | 2 => show 128 * c l + l.val < 1024; omega⟩
  have ev : ∀ {l : Fin 128} {p : ℕ} (hp : p < 8), laneVal d l p = d ⟨128 * p + l.val, by omega⟩ := fun hp => dif_pos hp
  have ei : ∀ {l : Fin 128} {p : ℕ} (_ : p < 8), laneIx l p = BitVec.ofNat 32 (128 * p + l.val) := fun hp => if_pos hp
  have kle : ∀ {l : Fin 128} {p q : ℕ} (hp : p < 8) (hq : q < 8), key (laneVal d l) p < key (laneVal d l) q →
      key d ⟨128 * p + l.val, by omega⟩ < key d ⟨128 * q + l.val, by omega⟩ := fun {l p q} hp hq h => by
    rw [key_lt, ev hp, ev hq] at h
    rw [key_lt]
    rcases h with h | h
    · exact Or.inl h
    · exact Or.inr ⟨h.1, Fin.lt_def.mpr (by show 128 * p + l.val < 128 * q + l.val; omega)⟩
  refine rounds op hop hl hr d hfin (fun j => pos (slot j) (ln j)) ?_ iv ?_ v ?_
  · intro x y p hx hy
    let l : Fin 128 := ⟨p.val % 128, Nat.mod_lt _ (by norm_num)⟩
    have hp8 : p.val / 128 < 8 := by have := p.isLt; omega
    have hp : p = ⟨128 * (p.val / 128) + l.val, by omega⟩ := Fin.ext (Nat.div_add_mod p.val 128).symm
    have get : ∀ m, pos m l ≠ x → pos m l ≠ y → key d (pos m l) ≤ key d p →
        ∃ j, pos (slot j) (ln j) ≠ x ∧ pos (slot j) (ln j) ≠ y ∧ key d (pos (slot j) (ln j)) ≤ key d p := fun m h1 h2 h3 => by
      obtain ⟨j, e1, e2⟩ := hsurj m l
      exact ⟨j, by rw [e1, e2]; exact h1, by rw [e1, e2]; exact h2, by rw [e1, e2]; exact h3⟩
    have k01 : key d (pos 0 l) < key d (pos 1 l) := kle (ha l) (hb l) (hh l).h12
    have k12 : key d (pos 1 l) < key d (pos 2 l) := kle (hb l) (hc l) (hh l).h23
    have same : ∀ m, (![a l, b l, c l] m) = p.val / 128 → pos m l = p := fun m hm => by
      rw [hp]; exact Fin.ext (by show 128 * (![a l, b l, c l] m) + l.val = _; rw [hm])
    rcases (hh l).rest (p.val / 128) (Or.inl hp8) with r | r | r | r
    · have e := same 0 r.symm; exact get 0 (e ▸ hx) (e ▸ hy) (e ▸ le_rfl)
    · have e := same 1 r.symm; exact get 1 (e ▸ hx) (e ▸ hy) (e ▸ le_rfl)
    · have e := same 2 r.symm; exact get 2 (e ▸ hx) (e ▸ hy) (e ▸ le_rfl)
    · have k2 : key d (pos 2 l) < key d p := by rw [hp]; exact kle (hc l) hp8 r
      have n01 : pos 0 l ≠ pos 1 l := fun h => k01.ne (congrArg (key d) h)
      have n12 : pos 1 l ≠ pos 2 l := fun h => k12.ne (congrArg (key d) h)
      have n02 : pos 0 l ≠ pos 2 l := fun h => (k01.trans k12).ne (congrArg (key d) h)
      by_cases h0 : pos 0 l ≠ x ∧ pos 0 l ≠ y
      · exact get 0 h0.1 h0.2 ((k01.trans k12).trans k2).le
      by_cases h1 : pos 1 l ≠ x ∧ pos 1 l ≠ y
      · exact get 1 h1.1 h1.2 (k12.trans k2).le
      refine get 2 ?_ ?_ k2.le
      · rintro rfl
        exact n01 ((not_not.mp (not_and.mp h0 n02)).trans (not_not.mp (not_and.mp h1 n12)).symm)
      · rintro rfl
        exact n01 ((not_not.mp fun h => h0 ⟨h, n02⟩).trans (not_not.mp fun h => h1 ⟨h, n12⟩).symm)
  · intro j
    rw [hiv]
    generalize slot j = m; generalize ln j = l
    match m with
    | 0 => exact (hh l).i1.trans (ei (ha l))
    | 1 => exact (hh l).i2.trans (ei (hb l))
    | 2 => exact (hh l).i3.trans (ei (hc l))
  · intro j
    rw [hv]
    generalize slot j = m; generalize ln j = l
    match m with
    | 0 => exact (hh l).v1.trans (ev (ha l))
    | 1 => exact (hh l).v2.trans (ev (hb l))
    | 2 => exact (hh l).v3.trans (ev (hc l))

/-! ## A stable sort -/

/-- A stable sort compares an element only with later ones: comparators that agree there sort alike. -/
theorem stableSort_congr_of_lt {n : Nat} (R R' : Fin n → Fin n → Bool) (h : ∀ a b, a < b → R b a = R' b a)
    (l : List (Fin n)) (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_congr_of_lt {n : Nat} (R R' : Fin n → Fin n → Bool) (h : ∀ a b, a < b → R b a = R' b a) :
    sortedFrom R = sortedFrom R' := by
  have e : sortPositions n R = sortPositions n R' :=
    stableSort_congr_of_lt R R' h _ (List.pairwise_lt_finRange n)
  funext k
  unfold sortedFrom
  rw [List.get_of_eq e]
  rfl

/-- A stable sort by distance puts the three nearest first. -/
theorem sortedFrom_nearest (d : Fin 1024 → EReal) (a : Fin 3 → Fin 1024) (h : Nearest d a)
    (B : Fin 1024 → Fin 1024 → Bool) (hB : ∀ p q, B p q = decide (d p < d q)) (k : Fin 3) :
    sortedFrom B (k.castLE (by norm_num)) = a k := by
  classical
  have e : sortedFrom B = sortedFrom fun p q => decide (key d p < key d q) := by
    refine sortedFrom_congr_of_lt _ _ fun p q hpq => ?_
    rw [hB, decide_eq_decide, key_lt]
    exact ⟨Or.inl, fun h => h.resolve_right fun h => absurd h.2 (not_lt.mpr hpq.le)⟩
  have tot : StrictTotalBefore fun p q : Fin 1024 => decide (key d p < key d q) :=
    { irrefl := fun p => by simp
      trans := fun p q r h1 h2 => by
        simp only [decide_eq_true_eq] at *
        exact h1.trans h2
      total := fun p q hne => by
        simp only [decide_eq_true_eq]
        exact lt_or_gt_of_ne fun h => hne (key_inj h) }
  rw [e]
  have h02 := h.fst.trans h.snd
  refine tot.sortedFrom_eq_of_prefix (by norm_num) a h.injective ?_ ?_ k
  · intro i j hij
    simp only [decide_eq_false_iff_not, not_lt]
    match i, j with
    | 0, 1 => exact h.fst.le
    | 1, 2 => exact h.snd.le
    | 0, 2 => exact h02.le
    | 0, 0 => exact absurd hij (lt_irrefl _)
    | 1, 1 => exact absurd hij (lt_irrefl _)
    | 2, 2 => exact absurd hij (lt_irrefl _)
    | 1, 0 => exact absurd hij (by decide)
    | 2, 0 => exact absurd hij (by decide)
    | 2, 1 => exact absurd hij (by decide)
  · intro i p hp
    simp only [decide_eq_false_iff_not, not_lt]
    have h2 : key d (a 2) < key d p := by
      rcases h.rest p with r | r | r | r
      · exact absurd r.symm (hp 0)
      · exact absurd r.symm (hp 1)
      · exact absurd r.symm (hp 2)
      · exact r
    match i with
    | 0 => exact (h02.trans h2).le
    | 1 => exact (h.snd.trans h2).le
    | 2 => exact h2.le

end Cert.Top3

end
-- ==== Proof.Pick.lean ====
/- The first kernel call's body read at a point: what a lane holds, what the three rounds find, the stored weights. -/
module

public import proofs.«01_k».proof.Proof.Block
public import proofs.«01_k».proof.Proof.Top3
public import proofs.«01_k».proof.Proof.Laws
public import Idealize.ShloMosaic.Lib.Pointwise

@[expose] public section

set_option maxRecDepth 16384

noncomputable section

namespace Cert.Pick

open Idealize.ShloMosaic Cert.KernelIdeal Cert.KernelIdeal.Gen Cert.Block Cert.Top3

/-- The named constant is the top. -/
theorem big_eq : (big : Ideal .f32) = (⊤ : EReal) := rfl

/-- What one lane of one point holds. -/
def laneOf (s : Held Ideal) (i : Fin 64) (l : Fin 128) : Lane :=
  ⟨s.v1 (ix2 i l), s.v2 (ix2 i l), s.v3 (ix2 i l), s.i1 (ix2 i l), s.i2 (ix2 i l), s.i3 (ix2 i l)⟩

/-- A lane at the start. -/
theorem laneOf_start (i : Fin 64) (l : Fin 128) : laneOf start i l = Lane.start := rfl

/-- A lane meets a chunk by one insertion. -/
theorem laneOf_meet (s : Held Ideal) (x : FVec Ideal S64x128 .f32) (ix : IVec S64x128 32) (i : Fin 64) (l : Fin 128) :
    laneOf (meet s x ix) i l = (laneOf s i l).step (x (ix2 i l)) (ix (ix2 i l)) := by
  unfold laneOf meet Lane.step
  pointwise

/-- A chunk at a point and a lane. -/
theorem chunk_apply (D : FVec Ideal S64x1024 .f32) (c : Fin 8) (i : Fin 64) (l : Fin 128) :
    chunk D c (ix2 i l) = D (ix2 i ⟨128 * c.val + l.val, by omega⟩) := by
  unfold chunk
  pointwise

/-- The positions of a chunk. -/
theorem places_apply (c : Fin 8) (i : Fin 64) (l : Fin 128) :
    places c (ix2 i l) = BitVec.ofNat 32 (128 * c.val + l.val) := by
  unfold places
  pointwise
  rw [IntOp.addi, ← BitVec.ofNat_add, Nat.add_comm]

/-- After all chunks a lane of a point holds the three least distances it met. -/
theorem laneOf_held (D : FVec Ideal S64x1024 .f32) (i : Fin 64) (l : Fin 128) :
    laneOf (held D) i l = lane (fun p => D (ix2 i p)) l := by
  simp only [held, laneOf_meet, laneOf_start, chunk_apply, places_apply, lane, Lane.after]
  simp only [laneVal, laneIx]
  rfl

/-- A candidate's slot among its lane's three. -/
def slot (j : Fin 384) : Fin 3 := ⟨j.val / 128, by omega⟩

/-- A candidate's lane. -/
def ln (j : Fin 384) : Fin 128 := ⟨j.val % 128, by omega⟩

theorem slot_surj (m : Fin 3) (l : Fin 128) : ∃ j, slot j = m ∧ ln j = l :=
  ⟨⟨128 * m.val + l.val, by omega⟩, Fin.ext (by show (128 * m.val + l.val) / 128 = m.val; omega),
    Fin.ext (by show (128 * m.val + l.val) % 128 = l.val; omega)⟩

/-- Reading the one of three parts a slot names. -/
theorem part_of {α : Type} (a b c : S64x128.Idx → α) (i : Fin 64) (j : Fin 384) :
    (if h : j.val < 128 then a (ix2 i ⟨j.val, h⟩)
      else if h : j.val - 128 < 128 then b (ix2 i ⟨j.val - 128, h⟩) else c (ix2 i ⟨j.val - 128 - 128, by omega⟩)) =
    ![a (ix2 i (ln j)), b (ix2 i (ln j)), c (ix2 i (ln j))] (slot j) := by
  have hj := j.isLt
  have cast3 : ∀ {q r : Fin 128} (h : q.val = r.val), q = r := fun h => Fin.ext h
  split
  · rename_i h
    rw [show slot j = 0 from Fin.ext (by show j.val / 128 = 0; omega), cast3 (q := ⟨j.val, h⟩) (r := ln j) (by show j.val = j.val % 128; omega)]
    rfl
  · split
    · rename_i h h'
      rw [show slot j = 1 from Fin.ext (by show j.val / 128 = 1; omega), cast3 (q := ⟨j.val - 128, h'⟩) (r := ln j) (by show j.val - 128 = j.val % 128; omega)]
      rfl
    · rename_i h h'
      rw [show slot j = 2 from Fin.ext (by show j.val / 128 = 2; omega), cast3 (q := ⟨j.val - 128 - 128, by omega⟩) (r := ln j) (by show j.val - 128 - 128 = j.val % 128; omega)]
      rfl

/-- The candidates' values at a point. -/
theorem vals_apply (D : FVec Ideal S64x1024 .f32) (i : Fin 64) (j : Fin 384) :
    vals D (ix2 i j) = (lane (fun p => D (ix2 i p)) (ln j)).val (slot j) := by
  rw [← laneOf_held]
  unfold vals laneOf
  generalize held D = s
  pointwise
  exact part_of s.v1 s.v2 s.v3 i j

/-- The candidates' positions at a point. -/
theorem poss_apply (D : FVec Ideal S64x1024 .f32) (i : Fin 64) (j : Fin 384) :
    poss D (ix2 i j) = (lane (fun p => D (ix2 i p)) (ln j)).ix (slot j) := by
  rw [← laneOf_held]
  unfold poss laneOf
  generalize held D = s
  pointwise
  exact part_of s.i1 s.i2 s.i3 i j

/-- The least value of a point's candidates. -/
theorem best_apply (v : FVec Ideal S64x384 .f32) (i : Fin 64) :
    best v (ix2 i 0) = least (fun j => v (ix2 i j)) := by
  unfold best least
  pointwise
  rw [Laws.ofBits_inf]

/-- The least position among a point's candidates of least value. -/
theorem bestAt_apply (iv : IVec S64x384 32) (v : FVec Ideal S64x384 .f32) (i : Fin 64) :
    bestAt iv v (ix1 i) = leastAt IntOp.minsi (fun j => iv (ix2 i j)) (fun j => v (ix2 i j)) := by
  unfold bestAt
  pointwise
  rw [best_apply]
  rfl

/-- A point's candidates after one is taken. -/
theorem taken_apply (iv : IVec S64x384 32) (v : FVec Ideal S64x384 .f32) (i : Fin 64) (j : Fin 384) :
    taken iv v (ix2 i j) = mask (fun j => iv (ix2 i j)) (fun j => v (ix2 i j)) (bestAt iv v (ix1 i)) j := by
  unfold taken mask
  pointwise
  rw [big_eq]
  unfold IntOp.cmpi Scalar.select
  by_cases h : iv (ix2 i j) = bestAt iv v (ix1 i)
  · simp [h]
  · have hb : (iv (ix2 i j) == bestAt iv v (ix1 i)) = false := beq_eq_false_iff_ne.mpr h
    simp [h, hb]

/-- The candidates' values of a point at the start of a round. -/
theorem valsAt_apply (D : FVec Ideal S64x1024 .f32) (i : Fin 64) (k : ℕ) :
    (fun j => Block.valsAt D k (ix2 i j)) =
      Top3.valsAt IntOp.minsi (fun j => poss D (ix2 i j)) (fun j => vals D (ix2 i j)) k := by
  induction k with
  | zero => rfl
  | succ k ih =>
    funext j
    rw [Block.valsAt, Top3.valsAt, taken_apply, bestAt_apply, ih]

/-- The distance of round `k` at a point. -/
theorem distAt_apply (D : FVec Ideal S64x1024 .f32) (k : ℕ) (i : Fin 64) :
    distAt D k (ix2 0 i) = best (Block.valsAt D k) (ix2 i 0) := by
  unfold distAt
  pointwise

/-- The position of round `k` at a point. -/
theorem idxAt_apply (D : FVec Ideal S64x1024 .f32) (k : ℕ) (i : Fin 64) :
    Block.idxAt D k (ix3 0 0 i) = bestAt (poss D) (Block.valsAt D k) (ix1 i) := by
  unfold Block.idxAt
  pointwise

/-- The inverse floored distance of round `k` at a point. -/
theorem inverse_apply (D : FVec Ideal S64x1024 .f32) (k : Fin 3) (i : Fin 64) :
    inverse D (ix2 k i) =
      Ideal.div 1 (max (distAt D k.val (ix2 0 i)) (Ideal.ofBits .f32 0x2EDBE6FF#32)) := by
  unfold inverse
  pointwise
  fin_vals k with hk
  all_goals simp only [hk, Nat.reduceSub, Nat.reduceLT, ↓reduceDIte]
  all_goals rfl

/-- The weight of round `k` at a point. -/
theorem weights_apply (D : FVec Ideal S64x1024 .f32) (k : Fin 3) (i : Fin 64) :
    weights D (ix3 0 k i) = Ideal.div (inverse D (ix2 k i)) (∑ l : Fin 3, inverse D (ix2 l i)) := by
  unfold weights
  pointwise

/-- The rounds take the three nearest positions of a point, and the weights are those of their distances. -/
theorem picked (D : FVec Ideal S64x1024 .f32) (i : Fin 64) (hfin : ∀ p, D (ix2 i p) < ⊤) :
    ∃ a : Fin 3 → Fin 1024, Nearest (fun p => D (ix2 i p)) a ∧
      (∀ k : Fin 3, Block.idxAt D k.val (ix3 0 0 i) = BitVec.ofNat 32 (a k).val) ∧
      ∀ k : Fin 3, weights D (ix3 0 k i) =
        Laws.weight (Ideal.ofBits .f32 0x2EDBE6FF#32) (fun l => D (ix2 i (a l))) k := by
  obtain ⟨a, ha, h⟩ := lanes_rounds IntOp.minsi
    (fun x y => by unfold IntOp.minsi; split <;> simp) (fun x y => by rw [IntOp.minsi]; split <;> simp_all [BitVec.slt] <;> omega)
    (fun x y => by rw [IntOp.minsi]; split <;> simp_all [BitVec.slt] <;> omega)
    (fun p => D (ix2 i p)) hfin slot ln slot_surj (fun j => poss D (ix2 i j)) (fun j => vals D (ix2 i j))
    (poss_apply D i) (vals_apply D i)
  have hd : ∀ k : Fin 3, distAt D k.val (ix2 0 i) = D (ix2 i (a k)) := fun k => by
    rw [distAt_apply, best_apply, valsAt_apply]; exact (h k).1
  refine ⟨a, ha, fun k => ?_, fun k => ?_⟩
  · rw [idxAt_apply, bestAt_apply, valsAt_apply]; exact (h k).2
  · rw [weights_apply]
    simp only [inverse_apply, hd]
    rfl

/-- A block's row. -/
theorem rows_apply (D : FVec Ideal S512x1024 .f32) (r : Fin 8) (i : Fin 64) (p : Fin 1024) :
    rows D r (ix2 i p) = D (ix2 ⟨64 * r.val + i.val, by omega⟩ p) := by
  unfold rows
  pointwise

/-- The block of a point of a tile. -/
def blockOf (j : Fin 512) : Fin 8 := ⟨j.val / 64, by omega⟩

/-- The row of a point in its block. -/
def rowOf (j : Fin 512) : Fin 64 := ⟨j.val % 64, by omega⟩

/-- A point's row of its block is its row of the tile. -/
theorem rows_of (D : FVec Ideal S512x1024 .f32) (j : Fin 512) (p : Fin 1024) :
    rows D (blockOf j) (ix2 (rowOf j) p) = D (ix2 j p) := by
  rw [rows_apply]
  exact congrArg (fun q => D (ix2 q p)) (Fin.ext (by show 64 * (j.val / 64) + j.val % 64 = j.val; omega))

theorem block_of (r : Fin 8) (i : Fin 64) : blockOf ⟨64 * r.val + i.val, by omega⟩ = r :=
  Fin.ext (by show (64 * r.val + i.val) / 64 = r.val; omega)

theorem row_of (r : Fin 8) (i : Fin 64) : rowOf ⟨64 * r.val + i.val, by omega⟩ = i :=
  Fin.ext (by show (64 * r.val + i.val) % 64 = i.val; omega)

/-- The stored weights at a point: those its block computes. -/
theorem canon3_apply (D : FVec Ideal S512x1024 .f32) (k : Fin 3) (j : Fin 512) :
    View.canon (pieces3 D) (ix3 0 k j) = weights (rows D (blockOf j)) (ix3 0 k (rowOf j)) := by
  refine View.canon_apply_of_pieces (Val := Elt Ideal) (e := .f32) (S := S1x3x512) (fun y => weights (rows D (blockOf (y 2))) (ix3 0 (y 1) (rowOf (y 2)))) _ ?_ _ ?_
  · intro p hp x
    obtain ⟨r, -, rfl⟩ := List.mem_map.mp hp
    idx_vars x
    have e : (piece3 D r).fst.emb (ix3 x0 x1 x2) = ix3 (n0 := 1) (n1 := 3) (n2 := 512) 0 x1 ⟨64 * r.val + x2.val, by omega⟩ := by
      funext a
      fin_cases a
      · exact Fin.ext (by show 0 + 1 * x0.val = 0; omega)
      · exact Fin.ext (by show 0 + 1 * x1.val = x1.val; omega)
      · exact Fin.ext (by show 64 * r.val + 1 * x2.val = 64 * r.val + x2.val; omega)
    rw [e]
    show weights (rows D r) (ix3 x0 x1 x2) = weights (rows D (blockOf ⟨64 * r.val + x2.val, _⟩)) (ix3 0 x1 (rowOf ⟨64 * r.val + x2.val, _⟩))
    rw [block_of r x2, row_of r x2]
    exact congrArg (fun q => weights (rows D r) (ix3 q x1 x2)) (Subsingleton.elim _ _)
  · refine ⟨piece3 D (blockOf j), List.mem_map.mpr ⟨blockOf j, by generalize blockOf j = r; revert r; decide, rfl⟩, ?_⟩
    unfold piece3
    rw [Rect.mem_set_unit]
    intro a
    fin_cases a
    · exact ⟨Nat.zero_le _, Nat.one_pos⟩
    · exact ⟨Nat.zero_le _, by show k.val < 0 + 3; omega⟩
    · exact ⟨by show 64 * (j.val / 64) ≤ j.val; omega, by show j.val < 64 * (j.val / 64) + 64; omega⟩

/-- The positions a store writes. -/
theorem piece2_snd (D : FVec Ideal S512x1024 .f32) (r : Fin 8) (k : Fin 3) :
    (piece2 D r k).2 = Block.idxAt (rows D r) k.val := by
  simp only [piece2]

/-- The stored positions at a point: those its block computes. -/
theorem canon2_apply (D : FVec Ideal S512x1024 .f32) (k : Fin 3) (j : Fin 512) :
    View.canon (pieces2 D) (ix3 0 k j) = Block.idxAt (rows D (blockOf j)) k.val (ix3 0 0 (rowOf j)) := by
  refine View.canon_apply_of_pieces (Val := Elt Ideal) (e := .i32) (S := S1x3x512) (fun y => Block.idxAt (rows D (blockOf (y 2))) (y 1).val (ix3 0 0 (rowOf (y 2)))) _ ?_ _ ?_
  · intro p hp x
    obtain ⟨r, -, hp⟩ := List.mem_flatMap.mp hp
    obtain ⟨k, -, rfl⟩ := List.mem_map.mp hp
    idx_vars x
    have e : (piece2 D r k).fst.emb (ix3 x0 x1 x2) = ix3 (n0 := 1) (n1 := 3) (n2 := 512) 0 k ⟨64 * r.val + x2.val, by omega⟩ := by
      funext a
      fin_cases a
      · exact Fin.ext (by show 0 + 1 * x0.val = 0; omega)
      · exact Fin.ext (by show k.val + 1 * x1.val = k.val; omega)
      · exact Fin.ext (by show 64 * r.val + 1 * x2.val = 64 * r.val + x2.val; omega)
    rw [e]
    simp only [ix3_1, ix3_2]
    rw [block_of r x2, row_of r x2, Subsingleton.elim x0 0, Subsingleton.elim x1 0]
    rw [piece2_snd]
  · refine ⟨piece2 D (blockOf j) k, List.mem_flatMap.mpr ⟨blockOf j, by generalize blockOf j = r; revert r; decide,
      List.mem_map.mpr ⟨k, by revert k; decide, rfl⟩⟩, ?_⟩
    unfold piece2
    rw [Rect.mem_set_unit]
    intro a
    fin_cases a
    · exact ⟨Nat.zero_le _, Nat.one_pos⟩
    · exact ⟨le_refl k.val, by show k.val < k.val + 1; omega⟩
    · exact ⟨by show 64 * (j.val / 64) ≤ j.val; omega, by show j.val < 64 * (j.val / 64) + 64; omega⟩

/-- What a tile stores of a point: the three nearest positions in order and the weights of their distances. -/
theorem stored (D : FVec Ideal S512x1024 .f32) (j : Fin 512) (hfin : ∀ p, D (ix2 j p) < ⊤) :
    ∃ a : Fin 3 → Fin 1024, Nearest (fun p => D (ix2 j p)) a ∧
      (∀ k : Fin 3, View.canon (pieces2 D) (ix3 0 k j) = BitVec.ofNat 32 (a k).val) ∧
      ∀ k : Fin 3, View.canon (pieces3 D) (ix3 0 k j) =
        Laws.weight (Ideal.ofBits .f32 0x2EDBE6FF#32) (fun l => D (ix2 j (a l))) k := by
  obtain ⟨a, ha, hi, hw⟩ := picked (rows D (blockOf j)) (rowOf j) fun p => by rw [rows_of]; exact hfin p
  simp only [rows_of] at ha hw
  exact ⟨a, ha, fun k => (canon2_apply D k j).trans (hi k), fun k => (canon3_apply D k j).trans (hw k)⟩

/-- The distances of a tile: the two squared lengths less twice the product. -/
theorem dist_apply (x0 : Vec Ideal S1x3x512 .f32) (x1 : Vec Ideal S1x3x1024 .f32) (j : Fin 512) (p : Fin 1024) :
    Block.dist x0 x1 (ix2 j p) =
      (∑ c : Fin 3, x0 (ix3 0 c j) * x0 (ix3 0 c j)) + (∑ c : Fin 3, x1 (ix3 0 c p) * x1 (ix3 0 c p))
        - Ideal.ofBits .f32 0x40000000#32 * ∑ c : Fin 3, x0 (ix3 0 c j) * x1 (ix3 0 c p) := by
  unfold Block.dist
  pointwise [k0_pay2]

end Cert.Pick

end
-- ==== Proof.Region0.lean ====
/- The first kernel call's two result arrays, read at a point. -/
module

public import proofs.«01_k».proof.Proof.Pick
public import Idealize.ShloMosaic.Lib.Pipeline.ValueKit

@[expose] public section

set_option maxRecDepth 16384

noncomputable section

namespace Cert.Region0

open Idealize.ShloMosaic Idealize.ShloMosaic.TcCoe Cert.KernelIdeal Cert.KernelIdeal.Gen Cert.Block

variable (V : (c : Dev nD) → (b : Ref sig .tc) → Buf (Elt Ideal) ((c : Thread nD τ).loc b)) (c : Dev nD)

/-- The grid point whose tile holds point `n` of batch `b`. -/
def pt (b : Fin 8) (n : Fin 4096) : Fin cfg0.N := ⟨8 * b.val + n.val / 512, by show _ < 64; omega⟩

/-- A point's place in its tile. -/
def place (n : Fin 4096) : Fin 512 := ⟨n.val % 512, by omega⟩

theorem pt_val (b : Fin 8) (n : Fin 4096) : (pt b n).val = 8 * b.val + n.val / 512 := rfl
theorem place_val (n : Fin 4096) : (place n).val = n.val % 512 := rfl

/-- Row `j` of tile `t` is a point of that tile, -/
theorem pt_of (t : Fin cfg0.N) (b : Fin 8) (n : Fin 4096) (j : Fin 512) (hb : b.val = t.val / 8)
    (hn : n.val = t.val % 8 * 512 + j.val) : pt b n = t := Fin.ext (by rw [pt_val]; omega)

/-- at place `j`. -/
theorem place_of (t : Fin cfg0.N) (n : Fin 4096) (j : Fin 512) (hn : n.val = t.val % 8 * 512 + j.val) : place n = j :=
  Fin.ext (by rw [place_val]; omega)

/-- The distances of tile `t`. -/
def tile (t : Fin cfg0.N) : FVec Ideal S512x1024 .f32 := Block.dist (iblk0 V c 0 t) (iblk0 V c 1 t)

theorem index0 : ∀ t : Fin cfg0.N, win0_0.index t = ![t.val / 8, 0, t.val % 8] :=
  (by decide +kernel : ∀ t : Fin grid0.N, _)
theorem index1 : ∀ t : Fin cfg0.N, win0_1.index t = ![t.val / 8, 0, 0] :=
  (by decide +kernel : ∀ t : Fin grid0.N, _)
theorem index2 : ∀ t : Fin cfg0.N, win0_2.index t = ![t.val / 8, 0, t.val % 8] :=
  (by decide +kernel : ∀ t : Fin grid0.N, _)
theorem index3 : ∀ t : Fin cfg0.N, win0_3.index t = ![t.val / 8, 0, t.val % 8] :=
  (by decide +kernel : ∀ t : Fin grid0.N, _)

/-- The positions' array after the call. -/
theorem arr2 : (dat0 V c).arrAt 2 cfg0.N =
    (fun i : S8x3x4096.Idx => View.canon (pieces2 (tile V c (pt (i 0) (i 2)))) (ix3 0 (i 1) (place (i 2))) : IVec S8x3x4096 32) := by
  refine (dat0 V c).arrAt_eq_of_covers 2 _ (by decide +kernel) fun t hf y => ?_
  blk_simp
  rw [after0_2, out2_eq]
  have h0 : ((win0_2.blk t).view.emb y 0 : ℕ) = t.val / 8 := by blk_simp [index2]
  have h1 : ((win0_2.blk t).view.emb y 1 : ℕ) = (y 1).val := by blk_simp [index2]
  have h2 : ((win0_2.blk t).view.emb y 2 : ℕ) = t.val % 8 * 512 + (y 2).val := by blk_simp [index2]
  rw [pt_of t _ _ (y 2) h0 h2, place_of t _ (y 2) h2]
  refine congrArg (View.canon (pieces2 (tile V c t))) ?_
  blk_ext [index2]

/-- The weights' array after the call. -/
theorem arr3 : (dat0 V c).arrAt 3 cfg0.N =
    (fun i : S8x3x4096.Idx => View.canon (pieces3 (tile V c (pt (i 0) (i 2)))) (ix3 0 (i 1) (place (i 2))) : FVec Ideal S8x3x4096 .f32) := by
  refine (dat0 V c).arrAt_eq_of_covers 3 _ (by decide +kernel) fun t hf y => ?_
  blk_simp
  rw [after0_3, out3_eq]
  have h0 : ((win0_3.blk t).view.emb y 0 : ℕ) = t.val / 8 := by blk_simp [index3]
  have h1 : ((win0_3.blk t).view.emb y 1 : ℕ) = (y 1).val := by blk_simp [index3]
  have h2 : ((win0_3.blk t).view.emb y 2 : ℕ) = t.val % 8 * 512 + (y 2).val := by blk_simp [index3]
  rw [pt_of t _ _ (y 2) h0 h2, place_of t _ (y 2) h2]
  refine congrArg (View.canon (pieces3 (tile V c t))) ?_
  blk_ext [index3]

/-- A tile's distances, in terms of the arrays: the two squared lengths less twice the product. -/
theorem tile_apply (b : Fin 8) (n : Fin 4096) (p : Fin 1024)
    (x1 : FVec Ideal S8x3x4096 .f32) (x2 : FVec Ideal S8x3x1024 .f32) (h1 : V c main_v0 = x1) (h2 : V c main_v1 = x2) :
    tile V c (pt b n) (ix2 (place n) p) =
      (∑ k : Fin 3, x1 (ix3 b k n) * x1 (ix3 b k n)) + (∑ k : Fin 3, x2 (ix3 b k p) * x2 (ix3 b k p))
        - Ideal.ofBits .f32 0x40000000#32 * ∑ k : Fin 3, x1 (ix3 b k n) * x2 (ix3 b k p) := by
  have e0 : ∀ k : Fin 3, iblk0 V c 0 (pt b n) (ix3 (n0 := 1) (n1 := 3) (n2 := 512) 0 k (place n)) = x1 (ix3 b k n) := fun k => by
    subst h1
    blk_simp [iblk0]
    blk_ext [index0, pt_val, place_val]
  have e1 : ∀ k : Fin 3, iblk0 V c 1 (pt b n) (ix3 (n0 := 1) (n1 := 3) (n2 := 1024) 0 k p) = x2 (ix3 b k p) := fun k => by
    subst h2
    blk_simp [iblk0]
    blk_ext [index1, pt_val, place_val]
  unfold tile
  rw [Pick.dist_apply]
  simp only [e0, e1]

/-- After the first kernel call, at each point: the three nearest positions in order, and the weights of their distances. -/
theorem arrs_apply (x1 : FVec Ideal S8x3x4096 .f32) (x2 : FVec Ideal S8x3x1024 .f32) (h1 : V c main_v0 = x1) (h2 : V c main_v1 = x2)
    (D : Fin 8 → Fin 4096 → Fin 1024 → EReal)
    (hD : ∀ b n p, D b n p = (∑ k : Fin 3, x1 (ix3 b k n) * x1 (ix3 b k n)) + (∑ k : Fin 3, x2 (ix3 b k p) * x2 (ix3 b k p))
        - Ideal.ofBits .f32 0x40000000#32 * ∑ k : Fin 3, x1 (ix3 b k n) * x2 (ix3 b k p))
    (hfin : ∀ b n p, D b n p < ⊤) (b : Fin 8) (n : Fin 4096) :
    ∃ a : Fin 3 → Fin 1024, Top3.Nearest (D b n) a ∧
      (∀ k : Fin 3, ((dat0 V c).arrAt 2 cfg0.N : IVec S8x3x4096 32) (ix3 b k n) = BitVec.ofNat 32 (a k).val) ∧
      ∀ k : Fin 3, ((dat0 V c).arrAt 3 cfg0.N : FVec Ideal S8x3x4096 .f32) (ix3 b k n) =
        Laws.weight (Ideal.ofBits .f32 0x2EDBE6FF#32) (fun l => D b n (a l)) k := by
  have e : ∀ p, tile V c (pt b n) (ix2 (place n) p) = D b n p := fun p => (tile_apply V c b n p x1 x2 h1 h2).trans (hD b n p).symm
  obtain ⟨a, ha, hi, hw⟩ := Pick.stored (tile V c (pt b n)) (place n) fun p => (e p).symm ▸ hfin b n p
  simp only [e] at ha hw
  refine ⟨a, ha, fun k => ?_, fun k => ?_⟩
  · rw [arr2]; exact hi k
  · rw [arr3]; exact hw k

end Cert.Region0

end
-- ==== Proof.Region14.lean ====
/- The second and the last kernel call's result arrays. -/
module

public import proofs.«01_k».proof.Proof.Gen.KernelIdeal.Frame.Region1
public import proofs.«01_k».proof.Proof.Gen.KernelIdeal.Frame.Region4
public import proofs.«01_k».proof.Proof.Laws
public import Idealize.ShloMosaic.Lib.Pointwise
public import Idealize.ShloMosaic.Lib.Pipeline.ValueKit

@[expose] public section

set_option maxRecDepth 16384

noncomputable section

namespace Cert.Region1

open Idealize.ShloMosaic Idealize.ShloMosaic.TcCoe Cert.KernelIdeal Cert.KernelIdeal.Gen

variable (V : (c : Dev nD) → (b : Ref sig .tc) → Buf (Elt Ideal) ((c : Thread nD τ).loc b)) (c : Dev nD)

theorem index0 : ∀ t : Fin cfg1.N, win1_0.index t = ![t.val, 0, 0] := (by decide +kernel : ∀ t : Fin grid1.N, _)
theorem index1 : ∀ t : Fin cfg1.N, win1_1.index t = ![0, 0] := (by decide +kernel : ∀ t : Fin grid1.N, _)
theorem index2 : ∀ t : Fin cfg1.N, win1_2.index t = ![t.val, 0, 0] := (by decide +kernel : ∀ t : Fin grid1.N, _)

/-- The second call multiplies every batch's rows by the weights. -/
theorem arr2 (P : FVec Ideal S8x1024x512 .f32) (W : FVec Ideal S512x512 .f32) (h0 : V c main_arg3 = P) (h1 : V c main_v3 = W) :
    (dat1 V c).arrAt 2 cfg1.N =
      (fun i : S8x1024x512.Idx => ∑ k : Fin 512, P (ix3 (i 0) (i 1) k) * W (ix2 k (i 2)) : FVec Ideal S8x1024x512 .f32) := by
  subst h0 h1
  refine (dat1 V c).arrAt_eq_of_covers 2 _ (by decide +kernel) fun t hf y => ?_
  blk_simp
  rw [after1_2]
  frame_out
  pointwise [k1_pay1]
  blk_point [iblk1, index0 t, index1 t, index2 t]

end Cert.Region1

namespace Cert.Region4

open Idealize.ShloMosaic Idealize.ShloMosaic.TcCoe Cert.KernelIdeal Cert.KernelIdeal.Gen

variable (V : (c : Dev nD) → (b : Ref sig .tc) → Buf (Elt Ideal) ((c : Thread nD τ).loc b)) (c : Dev nD)

theorem index0 : ∀ t : Fin cfg4.N, win4_0.index t = ![t.val / 8, t.val % 8, 0] := (by decide +kernel : ∀ t : Fin grid4.N, _)
theorem index1 : ∀ t : Fin cfg4.N, win4_1.index t = ![0, 0] := (by decide +kernel : ∀ t : Fin grid4.N, _)
theorem index2 : ∀ t : Fin cfg4.N, win4_2.index t = ![0, 0] := (by decide +kernel : ∀ t : Fin grid4.N, _)
theorem index3 : ∀ t : Fin cfg4.N, win4_3.index t = ![t.val / 8, t.val % 8, 0] := (by decide +kernel : ∀ t : Fin grid4.N, _)

/-- The last call scales, shifts and rectifies. -/
theorem arr3 (H : FVec Ideal S8x4096x512 .f32) (s b : FVec Ideal S1x512 .f32) (h0 : V c main_v21_0 = H) (h1 : V c main_v32 = s)
    (h2 : V c main_v35 = b) :
    (dat4 V c).arrAt 3 cfg4.N =
      (fun i : S8x4096x512.Idx => max (H (ix3 (i 0) (i 1) (i 2)) * s (ix2 0 (i 2)) + b (ix2 0 (i 2))) 0 : FVec Ideal S8x4096x512 .f32) := by
  subst h0 h1 h2
  refine (dat4 V c).arrAt_eq_of_covers 3 _ (by decide +kernel) fun t hf y => ?_
  blk_simp
  rw [after4_3]
  frame_out
  pointwise [k4_pay1]
  blk_point [iblk4, index0 t, index1 t, index2 t, index3 t]

end Cert.Region4

end
-- ==== Proof.Tiles.lean ====
module

public import Idealize.ShloMosaic.Lib.Pointwise

/-!
# The points of a launch, tile by tile

Sixty-four tiles of 512 points each run through the 4096 points of eight batches.
-/

@[expose] public section

open Idealize.ShloMosaic

namespace Cert.Tiles

/-- A sum over the tiles and the places of a tile is the sum over all points of all batches. -/
theorem sum_tiles {N : ℕ} (hN : N = 64) (b : Fin N → Fin 8) (n : Fin N → Fin 512 → Fin 4096)
    (hb : ∀ t, (b t).val = t.val / 8) (hn : ∀ t j, (n t j).val = t.val % 8 * 512 + j.val)
    (f : Fin 8 → Fin 4096 → EReal) :
    ∑ t : Fin N, ∑ j : Fin 512, f (b t) (n t j) = ∑ x : Fin 8 × Fin 4096, f x.1 x.2 := by
  subst hN
  rw [← Fintype.sum_prod_type' (f := fun t j => f (b t) (n t j))]
  refine Fintype.sum_bijective (fun x : Fin 64 × Fin 512 => (b x.1, n x.1 x.2)) ⟨fun x y h => ?_, fun z => ?_⟩ _ _ fun x => rfl
  · have h1 := congrArg (fun z => z.1.val) h
    have h2 := congrArg (fun z => z.2.val) h
    simp only [hb, hn] at h1 h2
    exact Prod.ext (Fin.ext (by omega)) (Fin.ext (by omega))
  · refine ⟨(⟨8 * z.1.val + z.2.val / 512, by omega⟩, ⟨z.2.val % 512, by omega⟩), Prod.ext (Fin.ext ?_) (Fin.ext ?_)⟩
    · simp only [hb]; omega
    · simp only [hn]; omega

end Cert.Tiles

end
-- ==== Proof.Region2.lean ====
/- The third kernel call's result arrays: the first layer before its normalisation, and its column sums. -/
module

public import proofs.«01_k».proof.Proof.Gen.KernelIdeal.Frame.Region2
public import proofs.«01_k».proof.Proof.Tiles
public import Idealize.ShloMosaic.Lib.Pointwise
public import Idealize.ShloMosaic.Lib.Pipeline.ValueKit

@[expose] public section

set_option maxRecDepth 16384

noncomputable section

namespace Cert.Region2

open Idealize.ShloMosaic Idealize.ShloMosaic.TcCoe Cert.KernelIdeal Cert.KernelIdeal.Gen

variable (V : (c : Dev nD) → (b : Ref sig .tc) → Buf (Elt Ideal) ((c : Thread nD τ).loc b)) (c : Dev nD)

theorem index0 : ∀ t : Fin cfg2.N, win2_0.index t = ![t.val / 8, 0, t.val % 8] := (by decide +kernel : ∀ t : Fin grid2.N, _)
theorem index1 : ∀ t : Fin cfg2.N, win2_1.index t = ![t.val / 8, 0, t.val % 8] := (by decide +kernel : ∀ t : Fin grid2.N, _)
theorem index2 : ∀ t : Fin cfg2.N, win2_2.index t = ![t.val / 8, 0, 0] := (by decide +kernel : ∀ t : Fin grid2.N, _)
theorem index3 : ∀ t : Fin cfg2.N, win2_3.index t = ![t.val / 8, t.val % 8, 0] := (by decide +kernel : ∀ t : Fin grid2.N, _)
theorem index4 : ∀ t : Fin cfg2.N, win2_4.index t = ![0, 0] := (by decide +kernel : ∀ t : Fin grid2.N, _)
theorem index5 : ∀ t : Fin cfg2.N, win2_5.index t = ![t.val / 8, t.val % 8, 0] := (by decide +kernel : ∀ t : Fin grid2.N, _)

/-- A weight at the position it belongs to, zero at the others. -/
def put (i : BitVec 32) (w : EReal) (p : Fin 1024) : EReal := if i = BitVec.ofNat 32 p.val then w else 0

/-- The first layer before its normalisation: the weighted rows picked out of `T`, and the product of the point's own
    features with their weights. -/
def layer (I : IVec S8x3x4096 32) (w : FVec Ideal S8x3x4096 .f32) (T : FVec Ideal S8x1024x512 .f32)
    (P : FVec Ideal S8x4096x256 .f32) (B : FVec Ideal S256x512 .f32) (b : Fin 8) (n : Fin 4096) (q : Fin 512) : EReal :=
  (∑ p : Fin 1024, ((put (I (ix3 b 0 n)) (w (ix3 b 0 n)) p + put (I (ix3 b 1 n)) (w (ix3 b 1 n)) p)
      + put (I (ix3 b 2 n)) (w (ix3 b 2 n)) p) * T (ix3 b p q))
    + ∑ k : Fin 256, P (ix3 b n k) * B (ix2 k q)

/-- What the body computes of tile `t`. -/
def tile (t : Fin cfg2.N) : FVec Ideal S512x512 .f32 :=
  k2_pay1 (k2_pay7 (iblk2 V c 0 t) (iblk2 V c 1 t)) (k2_pay8 (iblk2 V c 2 t)) (constant S512x512 FTy.f32 0#32)
    (iblk2 V c 3 t) (iblk2 V c 4 t)

/-- The selecting matrix of a tile. -/
theorem pay7_apply (v0 : Vec Ideal S1x3x512 .i32) (v2 : Vec Ideal S1x3x512 .f32) (j : Fin 512) (p : Fin 1024) :
    k2_pay7 v0 v2 (ix2 j p) = (put (v0 (ix3 0 0 j)) (v2 (ix3 0 0 j)) p + put (v0 (ix3 0 1 j)) (v2 (ix3 0 1 j)) p)
      + put (v0 (ix3 0 2 j)) (v2 (ix3 0 2 j)) p := by
  have e : ∀ (i : BitVec 32) (w : EReal), Scalar.select (IntOp.cmpi CmpIPredicate.eq i (BitVec.ofNat 32 p.val)) w 0 = put i w p :=
    fun i w => by
      unfold IntOp.cmpi Scalar.select put
      by_cases h : i = BitVec.ofNat 32 p.val
      · simp [h]
      · have hb : (i == BitVec.ofNat 32 p.val) = false := beq_eq_false_iff_ne.mpr h
        simp [h, hb]
  unfold k2_pay7
  pointwise
  rw [e, e, e]

variable (I : IVec S8x3x4096 32) (w : FVec Ideal S8x3x4096 .f32) (T : FVec Ideal S8x1024x512 .f32)
  (P : FVec Ideal S8x4096x256 .f32) (B : FVec Ideal S256x512 .f32)
  (h0 : V c main_v2_0 = I) (h1 : V c main_v2_1 = w) (h2 : V c main_v5 = T) (h3 : V c main_arg2 = P) (h4 : V c main_v4 = B)

/-- A tile's batch, -/
def batch (t : Fin cfg2.N) : Fin 8 := ⟨t.val / 8, by have : t.val < 64 := t.isLt; omega⟩

/-- and the point at a place of it. -/
def point (t : Fin cfg2.N) (j : Fin 512) : Fin 4096 := ⟨t.val % 8 * 512 + j.val, by omega⟩

theorem batch_val (t : Fin cfg2.N) : (batch t).val = t.val / 8 := rfl
theorem point_val (t : Fin cfg2.N) (j : Fin 512) : (point t j).val = t.val % 8 * 512 + j.val := rfl

include h0 h1 h2 h3 h4 in
/-- The body computes the first layer of its tile's points. -/
theorem tile_apply (t : Fin cfg2.N) (j q : Fin 512) :
    tile V c t (ix2 j q) = layer I w T P B (batch t) (point t j) q := by
  have e0 : ∀ k : Fin 3, iblk2 V c 0 t (ix3 (n0 := 1) (n1 := 3) (n2 := 512) 0 k j) = I (ix3 (batch t) k (point t j)) := fun k => by
    subst h0; blk_simp [iblk2]; blk_ext [index0, batch_val, point_val]
  have e1 : ∀ k : Fin 3, iblk2 V c 1 t (ix3 (n0 := 1) (n1 := 3) (n2 := 512) 0 k j) = w (ix3 (batch t) k (point t j)) := fun k => by
    subst h1; blk_simp [iblk2]; blk_ext [index1, batch_val, point_val]
  have e2 : ∀ p : Fin 1024, iblk2 V c 2 t (ix3 (n0 := 1) (n1 := 1024) (n2 := 512) 0 p q) = T (ix3 (batch t) p q) := fun p => by
    subst h2; blk_simp [iblk2]; blk_ext [index2, batch_val, point_val]
  have e3 : ∀ k : Fin 256, iblk2 V c 3 t (ix3 (n0 := 1) (n1 := 512) (n2 := 256) 0 j k) = P (ix3 (batch t) (point t j) k) := fun k => by
    subst h3; blk_simp [iblk2]; blk_ext [index3, batch_val, point_val]
  have e4 : ∀ k : Fin 256, iblk2 V c 4 t (ix2 (n0 := 256) (n1 := 512) k q) = B (ix2 k q) := fun k => by
    subst h4; blk_simp [iblk2]; blk_ext [index4]
  unfold tile layer
  generalize hM : k2_pay7 (iblk2 V c 0 t) (iblk2 V c 1 t) = M
  pointwise [k2_pay1, k2_pay8]
  subst hM
  simp only [pay7_apply, e0, e1, e2, e3, e4]

include h0 h1 h2 h3 h4 in
/-- The tile as it is stored, at an index of the block. -/
theorem stored_apply (t : Fin cfg2.N) (y : S1x512x512.Idx) (b : Fin 8) (n : Fin 4096) (q : Fin 512)
    (hb : (b : ℕ) = t.val / 8) (hn : (n : ℕ) = t.val % 8 * 512 + (y 1).val) (hq : (q : ℕ) = (y 2).val) :
    shapeCast S1x512x512 (tile V c t) shapeCasts_S512x512_S1x512x512 y = layer I w T P B b n q := by
  obtain rfl : b = batch t := Fin.ext hb
  idx_vars y
  obtain rfl : n = point t y1 := Fin.ext hn
  obtain rfl : q = y2 := Fin.ext hq
  pointwise
  exact tile_apply V c I w T P B h0 h1 h2 h3 h4 t y1 q

include h0 h1 h2 h3 h4 in
/-- The layer's array after the call. -/
theorem arr5 : (dat2 V c).arrAt 5 cfg2.N =
    (fun i : S8x4096x512.Idx => layer I w T P B (i 0) (i 1) (i 2) : FVec Ideal S8x4096x512 .f32) := by
  refine (dat2 V c).arrAt_eq_of_covers 5 _ (by decide +kernel) fun t hf y => ?_
  have e : (outsAt2 V c t.val t.isLt).1 = shapeCast S1x512x512 (tile V c t) shapeCasts_S512x512_S1x512x512 := by
    by_cases h : t.val % 64 = 0
    · rw [outsAt2_A V c t h]
      frame_out
      rfl
    · rw [outsAt2_B V c t h]
      frame_out
      rfl
  have hb : ((win2_5.blk t).view.emb y 0 : ℕ) = t.val / 8 := by blk_simp [index5]
  have hn : ((win2_5.blk t).view.emb y 1 : ℕ) = t.val % 8 * 512 + (y 1).val := by blk_simp [index5]
  have hq : ((win2_5.blk t).view.emb y 2 : ℕ) = (y 2).val := by blk_simp [index5]
  blk_simp
  rw [after2_5, e]
  exact stored_apply V c I w T P B h0 h1 h2 h3 h4 t y _ _ _ hb hn hq

include h0 h1 h2 h3 h4 in
/-- The column sums after the call: over all points of all batches. -/
theorem arr6 : (dat2 V c).arrAt 6 cfg2.N =
    (fun i : S1x512.Idx => ∑ x : Fin 8 × Fin 4096, layer I w T P B x.1 x.2 (i 1) : FVec Ideal S1x512 .f32) := by
  have step := Pipeline.eq_sum_fin_of_reset_step_apply_last (fun n h => (outsAt2 V c n h).2.1) 64 (fun _ => 0)
    (fun t i => ∑ j : Fin 512, tile V c t (ix2 j (i 1)))
    (fun t h i => by
      rw [outsAt2_A V c t h]
      frame_out
      idx_vars i
      pointwise [k2_pay5, k2_pay3]
      rfl)
    (fun t h i => by
      rw [outsAt2_B V c t h]
      frame_out
      idx_vars i
      pointwise [k2_pay5]
      rfl) (by decide) ⟨63, by decide⟩ rfl
  refine (dat2 V c).arrAt_eq_of_after_last 6 ⟨63, by decide⟩ (by decide +kernel) _ fun j => ?_
  rw [after2_6]
  show (outsAt2 V c 63 _).2.1 j = ∑ x : Fin 8 × Fin 4096, layer I w T P B x.1 x.2 (j 1)
  rw [← Tiles.sum_tiles (N := cfg2.N) (by decide) batch point batch_val point_val fun b n => layer I w T P B b n (j 1)]
  refine (step j).trans ((zero_add _).trans (Finset.sum_congr rfl fun t _ => Finset.sum_congr rfl fun n _ => ?_))
  exact tile_apply V c I w T P B h0 h1 h2 h3 h4 t n (j 1)

include h0 h1 h2 h3 h4 in
/-- The column sums of squares after the call. -/
theorem arr7 : (dat2 V c).arrAt 7 cfg2.N =
    (fun i : S1x512.Idx => ∑ x : Fin 8 × Fin 4096, layer I w T P B x.1 x.2 (i 1) * layer I w T P B x.1 x.2 (i 1) :
      FVec Ideal S1x512 .f32) := by
  have step := Pipeline.eq_sum_fin_of_reset_step_apply_last (fun n h => (outsAt2 V c n h).2.2) 64 (fun _ => 0)
    (fun t i => ∑ j : Fin 512, tile V c t (ix2 j (i 1)) * tile V c t (ix2 j (i 1)))
    (fun t h i => by
      rw [outsAt2_A V c t h]
      frame_out
      idx_vars i
      pointwise [k2_pay6, k2_pay4]
      rfl)
    (fun t h i => by
      rw [outsAt2_B V c t h]
      frame_out
      idx_vars i
      pointwise [k2_pay6]
      rfl) (by decide) ⟨63, by decide⟩ rfl
  refine (dat2 V c).arrAt_eq_of_after_last 7 ⟨63, by decide⟩ (by decide +kernel) _ fun j => ?_
  rw [after2_7]
  show (outsAt2 V c 63 _).2.2 j = ∑ x : Fin 8 × Fin 4096, layer I w T P B x.1 x.2 (j 1) * layer I w T P B x.1 x.2 (j 1)
  rw [← Tiles.sum_tiles (N := cfg2.N) (by decide) batch point batch_val point_val
    fun b n => layer I w T P B b n (j 1) * layer I w T P B b n (j 1)]
  refine (step j).trans ((zero_add _).trans (Finset.sum_congr rfl fun t _ => Finset.sum_congr rfl fun n _ => ?_))
  have e := tile_apply V c I w T P B h0 h1 h2 h3 h4 t n (j 1)
  exact congrArg₂ _ e e

end Cert.Region2

end
-- ==== Proof.Region3.lean ====
/- The fourth kernel call's result arrays: the second layer before its normalisation, and its column sums. -/
module

public import proofs.«01_k».proof.Proof.Gen.KernelIdeal.Frame.Region3
public import proofs.«01_k».proof.Proof.Tiles
public import Idealize.ShloMosaic.Lib.Pointwise
public import Idealize.ShloMosaic.Lib.Pipeline.ValueKit

@[expose] public section

set_option maxRecDepth 16384

noncomputable section

namespace Cert.Region3

open Idealize.ShloMosaic Idealize.ShloMosaic.TcCoe Cert.KernelIdeal Cert.KernelIdeal.Gen

variable (V : (c : Dev nD) → (b : Ref sig .tc) → Buf (Elt Ideal) ((c : Thread nD τ).loc b)) (c : Dev nD)

theorem index0 : ∀ t : Fin cfg3.N, win3_0.index t = ![t.val / 8, t.val % 8, 0] := (by decide +kernel : ∀ t : Fin grid3.N, _)
theorem index1 : ∀ t : Fin cfg3.N, win3_1.index t = ![0, 0] := (by decide +kernel : ∀ t : Fin grid3.N, _)
theorem index2 : ∀ t : Fin cfg3.N, win3_2.index t = ![0, 0] := (by decide +kernel : ∀ t : Fin grid3.N, _)
theorem index3 : ∀ t : Fin cfg3.N, win3_3.index t = ![0, 0] := (by decide +kernel : ∀ t : Fin grid3.N, _)
theorem index4 : ∀ t : Fin cfg3.N, win3_4.index t = ![t.val / 8, t.val % 8, 0] := (by decide +kernel : ∀ t : Fin grid3.N, _)

/-- The second layer before its normalisation: the first layer scaled, shifted, cut off below zero, and multiplied by
    the second weights. -/
def layer (H : FVec Ideal S8x4096x512 .f32) (s o : FVec Ideal S1x512 .f32) (W : FVec Ideal S512x512 .f32)
    (b : Fin 8) (n : Fin 4096) (q : Fin 512) : EReal :=
  ∑ k : Fin 512, max (H (ix3 b n k) * s (ix2 0 k) + o (ix2 0 k)) 0 * W (ix2 k q)

/-- What the body computes of tile `t`. -/
def tile (t : Fin cfg3.N) : FVec Ideal S512x512 .f32 :=
  k3_pay2 (iblk3 V c 0 t) (iblk3 V c 1 t) (iblk3 V c 2 t) (iblk3 V c 3 t)

variable (H : FVec Ideal S8x4096x512 .f32) (s o : FVec Ideal S1x512 .f32) (W : FVec Ideal S512x512 .f32)
  (h0 : V c main_v6_0 = H) (h1 : V c main_v17 = s) (h2 : V c main_v20 = o) (h3 : V c main_arg7 = W)

/-- A tile's batch, -/
def batch (t : Fin cfg3.N) : Fin 8 := ⟨t.val / 8, by have : t.val < 64 := t.isLt; omega⟩

/-- and the point at a place of it. -/
def point (t : Fin cfg3.N) (j : Fin 512) : Fin 4096 := ⟨t.val % 8 * 512 + j.val, by omega⟩

theorem batch_val (t : Fin cfg3.N) : (batch t).val = t.val / 8 := rfl
theorem point_val (t : Fin cfg3.N) (j : Fin 512) : (point t j).val = t.val % 8 * 512 + j.val := rfl

include h0 h1 h2 h3 in
/-- The body computes the second layer of its tile's points. -/
theorem tile_apply (t : Fin cfg3.N) (j q : Fin 512) :
    tile V c t (ix2 j q) = layer H s o W (batch t) (point t j) q := by
  have e0 : ∀ k : Fin 512, iblk3 V c 0 t (ix3 (n0 := 1) (n1 := 512) (n2 := 512) 0 j k) = H (ix3 (batch t) (point t j) k) := fun k => by
    subst h0; blk_simp [iblk3]; blk_ext [index0, batch_val, point_val]
  have e1 : ∀ k : Fin 512, iblk3 V c 1 t (ix2 (n0 := 1) (n1 := 512) 0 k) = s (ix2 0 k) := fun k => by
    subst h1; blk_simp [iblk3]; blk_ext [index1]
  have e2 : ∀ k : Fin 512, iblk3 V c 2 t (ix2 (n0 := 1) (n1 := 512) 0 k) = o (ix2 0 k) := fun k => by
    subst h2; blk_simp [iblk3]; blk_ext [index2]
  have e3 : ∀ k : Fin 512, iblk3 V c 3 t (ix2 (n0 := 512) (n1 := 512) k q) = W (ix2 k q) := fun k => by
    subst h3; blk_simp [iblk3]; blk_ext [index3]
  unfold tile layer
  pointwise [k3_pay2]
  simp only [e0, e1, e2, e3]

include h0 h1 h2 h3 in
/-- The tile as it is stored, at an index of the block. -/
theorem stored_apply (t : Fin cfg3.N) (y : S1x512x512.Idx) (b : Fin 8) (n : Fin 4096) (q : Fin 512)
    (hb : (b : ℕ) = t.val / 8) (hn : (n : ℕ) = t.val % 8 * 512 + (y 1).val) (hq : (q : ℕ) = (y 2).val) :
    shapeCast S1x512x512 (tile V c t) shapeCasts_S512x512_S1x512x512 y = layer H s o W b n q := by
  obtain rfl : b = batch t := Fin.ext hb
  idx_vars y
  obtain rfl : n = point t y1 := Fin.ext hn
  obtain rfl : q = y2 := Fin.ext hq
  pointwise
  exact tile_apply V c H s o W h0 h1 h2 h3 t y1 q

include h0 h1 h2 h3 in
/-- The layer's array after the call. -/
theorem arr4 : (dat3 V c).arrAt 4 cfg3.N =
    (fun i : S8x4096x512.Idx => layer H s o W (i 0) (i 1) (i 2) : FVec Ideal S8x4096x512 .f32) := by
  refine (dat3 V c).arrAt_eq_of_covers 4 _ (by decide +kernel) fun t hf y => ?_
  have e : (outsAt3 V c t.val t.isLt).1 = shapeCast S1x512x512 (tile V c t) shapeCasts_S512x512_S1x512x512 := by
    by_cases h : t.val % 64 = 0
    · rw [outsAt3_A V c t h]
      frame_out
      rfl
    · rw [outsAt3_B V c t h]
      frame_out
      rfl
  have hb : ((win3_4.blk t).view.emb y 0 : ℕ) = t.val / 8 := by blk_simp [index4]
  have hn : ((win3_4.blk t).view.emb y 1 : ℕ) = t.val % 8 * 512 + (y 1).val := by blk_simp [index4]
  have hq : ((win3_4.blk t).view.emb y 2 : ℕ) = (y 2).val := by blk_simp [index4]
  blk_simp
  rw [after3_4, e]
  exact stored_apply V c H s o W h0 h1 h2 h3 t y _ _ _ hb hn hq

include h0 h1 h2 h3 in
/-- The column sums after the call: over all points of all batches. -/
theorem arr5 : (dat3 V c).arrAt 5 cfg3.N =
    (fun i : S1x512.Idx => ∑ x : Fin 8 × Fin 4096, layer H s o W x.1 x.2 (i 1) : FVec Ideal S1x512 .f32) := by
  have step := Pipeline.eq_sum_fin_of_reset_step_apply_last (fun n h => (outsAt3 V c n h).2.1) 64 (fun _ => 0)
    (fun t i => ∑ j : Fin 512, tile V c t (ix2 j (i 1)))
    (fun t h i => by
      rw [outsAt3_A V c t h]
      frame_out
      idx_vars i
      pointwise [k3_pay6, k3_pay4]
      rfl)
    (fun t h i => by
      rw [outsAt3_B V c t h]
      frame_out
      idx_vars i
      pointwise [k3_pay6]
      rfl) (by decide) ⟨63, by decide⟩ rfl
  refine (dat3 V c).arrAt_eq_of_after_last 5 ⟨63, by decide⟩ (by decide +kernel) _ fun j => ?_
  rw [after3_5]
  show (outsAt3 V c 63 _).2.1 j = ∑ x : Fin 8 × Fin 4096, layer H s o W x.1 x.2 (j 1)
  rw [← Tiles.sum_tiles (N := cfg3.N) (by decide) batch point batch_val point_val fun b n => layer H s o W b n (j 1)]
  refine (step j).trans ((zero_add _).trans (Finset.sum_congr rfl fun t _ => Finset.sum_congr rfl fun n _ => ?_))
  exact tile_apply V c H s o W h0 h1 h2 h3 t n (j 1)

include h0 h1 h2 h3 in
/-- The column sums of squares after the call. -/
theorem arr6 : (dat3 V c).arrAt 6 cfg3.N =
    (fun i : S1x512.Idx => ∑ x : Fin 8 × Fin 4096, layer H s o W x.1 x.2 (i 1) * layer H s o W x.1 x.2 (i 1) :
      FVec Ideal S1x512 .f32) := by
  have step := Pipeline.eq_sum_fin_of_reset_step_apply_last (fun n h => (outsAt3 V c n h).2.2) 64 (fun _ => 0)
    (fun t i => ∑ j : Fin 512, tile V c t (ix2 j (i 1)) * tile V c t (ix2 j (i 1)))
    (fun t h i => by
      rw [outsAt3_A V c t h]
      frame_out
      idx_vars i
      pointwise [k3_pay1, k3_pay7, k3_pay8, k3_pay5]
      rfl)
    (fun t h i => by
      rw [outsAt3_B V c t h]
      frame_out
      idx_vars i
      pointwise [k3_pay1, k3_pay7, k3_pay8]
      rfl) (by decide) ⟨63, by decide⟩ rfl
  refine (dat3 V c).arrAt_eq_of_after_last 6 ⟨63, by decide⟩ (by decide +kernel) _ fun j => ?_
  rw [after3_6]
  show (outsAt3 V c 63 _).2.2 j = ∑ x : Fin 8 × Fin 4096, layer H s o W x.1 x.2 (j 1) * layer H s o W x.1 x.2 (j 1)
  rw [← Tiles.sum_tiles (N := cfg3.N) (by decide) batch point batch_val point_val
    fun b n => layer H s o W b n (j 1) * layer H s o W b n (j 1)]
  refine (step j).trans ((zero_add _).trans (Finset.sum_congr rfl fun t _ => Finset.sum_congr rfl fun n _ => ?_))
  have e := tile_apply V c H s o W h0 h1 h2 h3 t n (j 1)
  exact congrArg₂ _ e e

end Cert.Region3

end
-- ==== Proof.KernelValue.lean ====
/- The kernel program's result array, as the function of the arguments that `Spec` states. -/
module

public import proofs.«01_k».proof.Proof.Gen.KernelIdeal.Frame.Fold0
public import proofs.«01_k».proof.Proof.Spec
public import proofs.«01_k».proof.Proof.HostValues
public import proofs.«01_k».proof.Proof.Region0
public import proofs.«01_k».proof.Proof.Region14
public import proofs.«01_k».proof.Proof.Region2
public import proofs.«01_k».proof.Proof.Region3

@[expose] public section

set_option maxRecDepth 16384

noncomputable section

namespace Cert.KernelValue

open Idealize.ShloMosaic Idealize.ShloMosaic.TcCoe Cert.KernelIdeal Cert.KernelIdeal.Gen

/-! ## One layer's normalisation -/

/-- A value times its column's factor plus the column's offset is the value normalised. -/
theorem scaled (h : Fin 8 → Fin 4096 → Fin 512 → EReal) (S Q : FVec Ideal S1x512 .f32) (γ β : FVec Ideal S512 .f32) (q : Fin 512)
    (hS : S (ix2 0 q) = ∑ x : Fin 8 × Fin 4096, h x.1 x.2 q)
    (hQ : Q (ix2 0 q) = ∑ x : Fin 8 × Fin 4096, h x.1 x.2 q * h x.1 x.2 q)
    (hγ : Laws.IsReal (γ (ix1 q))) (b : Fin 8) (n : Fin 4096) :
    max (h b n q * HostValues.scale S Q γ q + HostValues.offset S Q γ β q) 0 = Spec.act γ β h b n q := by
  have e := Laws.factor_eq_normalised (ι := Fin 8 × Fin 4096) (by simp) Laws.ofBits_eps hγ (β (ix1 q))
    (fun x => h x.1 x.2 q) (b, n)
  unfold Spec.act HostValues.offset HostValues.scale
  rw [hS, hQ, Laws.ofBits_count]
  exact congrArg (max · 0) e

/-! ## The arguments -/

variable (m : (ℓ : Loc nD τ sig) → Buf (Elt Ideal) ℓ) (ρ : Dev nD → PrngReg) (c : Dev nD)
  (x1 : FVec Ideal S8x4096x3 .f32) (x2 : FVec Ideal S8x1024x3 .f32) (P1 : FVec Ideal S8x4096x256 .f32)
  (P2 : FVec Ideal S8x1024x512 .f32) (W1 : FVec Ideal S768x512 .f32) (γ1 β1 : FVec Ideal S512 .f32)
  (W2 : FVec Ideal S512x512 .f32) (γ2 β2 : FVec Ideal S512 .f32)
  (h0 : m ((c.tc : Thread nD τ).loc main_arg0) = x1) (h1 : m ((c.tc : Thread nD τ).loc main_arg1) = x2)
  (h2 : m ((c.tc : Thread nD τ).loc main_arg2) = P1) (h3 : m ((c.tc : Thread nD τ).loc main_arg3) = P2)
  (h4 : m ((c.tc : Thread nD τ).loc main_arg4) = W1) (h5 : m ((c.tc : Thread nD τ).loc main_arg5) = γ1)
  (h6 : m ((c.tc : Thread nD τ).loc main_arg6) = β1) (h7 : m ((c.tc : Thread nD τ).loc main_arg7) = W2)
  (h8 : m ((c.tc : Thread nD τ).loc main_arg8) = γ2) (h9 : m ((c.tc : Thread nD τ).loc main_arg9) = β2)

/-! ## The nearest positions and their weights -/

/-- The distances of real coordinates are real. -/
theorem isReal_dist (hx1 : ∀ i, Laws.IsReal (x1 i)) (hx2 : ∀ i, Laws.IsReal (x2 i)) (b : Fin 8) (n : Fin 4096) (p : Fin 1024) :
    Laws.IsReal (Spec.dist x1 x2 b n p) := by
  unfold Spec.dist
  refine ((Laws.IsReal.sum fun k => (hx1 _).mul (hx1 _)).add (Laws.IsReal.sum fun k => (hx2 _).mul (hx2 _))).sub ?_
  rw [Laws.ofBits_two]
  exact (Laws.isReal_coe 2).mul (Laws.IsReal.sum fun k => (hx1 _).mul (hx2 _))

include h0 h1 in
/-- What the first call leaves: every point's three nearest positions and their weights. -/
theorem nearest (hx1 : ∀ i, Laws.IsReal (x1 i)) (hx2 : ∀ i, Laws.IsReal (x2 i)) :
    ∃ a : Fin 8 → Fin 4096 → Fin 3 → Fin 1024, (∀ b n, Top3.Nearest (Spec.dist x1 x2 b n) (a b n))
      ∧ (∀ b n k, (V4 m ρ c main_v2_0 : IVec S8x3x4096 32) (ix3 b k n) = BitVec.ofNat 32 (a b n k).val)
      ∧ ∀ b n k, (V4 m ρ c main_v2_1 : FVec Ideal S8x3x4096 .f32) (ix3 b k n) = Spec.weight x1 x2 a b n k := by
  have e0 : ∀ b k n, (V1 m ρ c main_v0 : FVec Ideal S8x3x4096 .f32) (ix3 b k n) = x1 (ix3 b n k) := fun b k n => by
    subst h0; exact HostValues.v0_at (W0 m ρ c) b k n
  have e1 : ∀ b k p, (V1 m ρ c main_v1 : FVec Ideal S8x3x1024 .f32) (ix3 b k p) = x2 (ix3 b p k) := fun b k p => by
    subst h1; exact HostValues.v1_at (W0 m ρ c) b k p
  have key := Region0.arrs_apply (V1 m ρ) c _ _ rfl rfl (Spec.dist x1 x2)
    (fun b n p => by simp only [e0, e1, Spec.dist]) (fun b n p => (isReal_dist x1 x2 hx1 hx2 b n p).lt_top)
  have k2 : V4 m ρ c main_v2_0 = (dat0 (V1 m ρ) c).arrAt 2 cfg0.N :=
    (W4_of_ne m ρ c main_v2_0 (by decide)).trans ((W3_of m ρ c main_v2_0 (by decide)).trans (W2_arr m ρ c 2))
  have k3 : V4 m ρ c main_v2_1 = (dat0 (V1 m ρ) c).arrAt 3 cfg0.N :=
    (W4_of_ne m ρ c main_v2_1 (by decide)).trans ((W3_of m ρ c main_v2_1 (by decide)).trans (W2_arr m ρ c 3))
  choose a ha hi hw using key
  exact ⟨a, ha, fun b n k => (congrFun k2 _).trans (hi b n k), fun b n k => (congrFun k3 _).trans (hw b n k)⟩

/-! ## The first layer -/

include h3 h4 in
/-- What the second call leaves: the positions' features against the first 512 rows of the weights. -/
theorem table : (V4 m ρ c main_v5 : FVec Ideal S8x1024x512 .f32)
    = fun i => ∑ k : Fin 512, P2 (ix3 (i 0) (i 1) k) * W1 (ix2 ⟨k.val, by omega⟩ (i 2)) := by
  have e : ∀ k q : Fin 512, (V3 m ρ c main_v3 : FVec Ideal S512x512 .f32) (ix2 k q) = W1 (ix2 ⟨k.val, by omega⟩ q) := fun k q => by
    rw [← h4, ← W2_args m ρ c main_arg4 (by decide)]; exact HostValues.v3_at (W2 m ρ c) k q
  refine ((W4_arr m ρ c 2).trans (Region1.arr2 (V3 m ρ) c P2 _ ((W3_args m ρ c main_arg3 (by decide)).trans h3) rfl)).trans ?_
  funext i
  exact Finset.sum_congr rfl fun k _ => congrArg (P2 (ix3 (i 0) (i 1) k) * ·) (e k (i 2))

/-- A weight put at the position whose number is held. -/
theorem put_ofNat (p p' : Fin 1024) (w : EReal) : Region2.put (BitVec.ofNat 32 p.val) w p' = if p = p' then w else 0 := by
  unfold Region2.put
  refine if_congr ⟨fun h => Fin.ext ?_, fun h => by rw [h]⟩ rfl rfl
  have := congrArg BitVec.toNat h
  simp only [BitVec.toNat_ofNat] at this
  omega

include h2 h3 h4 in
/-- What the third call computes is the first layer, but where both are infinite: there the kernel, which multiplies
    before it interpolates, may hold the other infinity. -/
theorem layer1 (a : Fin 8 → Fin 4096 → Fin 3 → Fin 1024)
    (hi : ∀ b n k, (V4 m ρ c main_v2_0 : IVec S8x3x4096 32) (ix3 b k n) = BitVec.ofNat 32 (a b n k).val)
    (hw : ∀ b n k, (V4 m ρ c main_v2_1 : FVec Ideal S8x3x4096 .f32) (ix3 b k n) = Spec.weight x1 x2 a b n k)
    (ha : ∀ b n, Function.Injective (a b n)) (hr : ∀ b n k, ∃ r : ℝ, 0 < r ∧ Spec.weight x1 x2 a b n k = (r : EReal))
    (hW1 : ∀ k q : Fin 512, Laws.IsReal (W1 (ix2 ⟨k.val, by omega⟩ q))) (b : Fin 8) (n : Fin 4096) (q : Fin 512) :
    let h := Region2.layer (V4 m ρ c main_v2_0) (V4 m ρ c main_v2_1) (V4 m ρ c main_v5) (V4 m ρ c main_arg2) (V4 m ρ c main_v4) b n q
    h = Spec.first x1 x2 P1 P2 W1 a b n q ∨ (¬ Laws.IsReal h ∧ ¬ Laws.IsReal (Spec.first x1 x2 P1 P2 W1 a b n q)) := by
  dsimp only
  have eP : V4 m ρ c main_arg2 = P1 := (W4_args m ρ c main_arg2 (by decide)).trans h2
  have eB : ∀ k : Fin 256, (V4 m ρ c main_v4 : FVec Ideal S256x512 .f32) (ix2 k q) = W1 (ix2 ⟨512 + k.val, by omega⟩ q) := fun k => by
    rw [← h4, ← W2_args m ρ c main_arg4 (by decide)]
    exact (congrFun (W4_of_ne m ρ c main_v4 (by decide)) _).trans (HostValues.v4_at (W2 m ρ c) k q)
  unfold Region2.layer Spec.first
  rw [table m ρ c P2 W1 h3 h4, eP]
  simp only [hi, hw, eB, put_ofNat]
  refine (Laws.interpolate_any (a b n) (ha b n) (Spec.weight x1 x2 a b n) (fun p k => P2 (ix3 b p k)) (fun k => W1 (ix2 ⟨k.val, by omega⟩ q))
    (fun k => ?_) (fun k => ?_) fun k => hW1 k q).imp (fun e => congrArg (· + _) e)
    (fun e => ⟨Laws.not_real_add _ e.1, Laws.not_real_add _ e.2⟩)
  · obtain ⟨r, _, e⟩ := hr b n k; exact ⟨r, e⟩
  · obtain ⟨r, h0, e⟩ := hr b n k
    rw [e]
    exact_mod_cast h0.ne'

/-- Arrays that agree, but where both hold infinities, give the same layer after normalisation. -/
theorem act_congr (γ β : FVec Ideal S512 .f32) (h h' : Fin 8 → Fin 4096 → Fin 512 → EReal)
    (e : ∀ b n q, h b n q = h' b n q ∨ (¬ Laws.IsReal (h b n q) ∧ ¬ Laws.IsReal (h' b n q))) : Spec.act γ β h = Spec.act γ β h' := by
  funext b n q
  obtain ⟨r, _, hr⟩ := Laws.ofBits_eps
  exact congrArg (max · 0) (Laws.normalised_congr (ι := Fin 8 × Fin 4096) ⟨r, hr⟩ (γ (ix1 q)) (β (ix1 q)) (fun x => e x.1 x.2 q) (b, n))

/-! ## The second layer and the result -/

include h5 h6 h7 in
/-- What the fourth call computes is the second layer, where the third computed the layer `h`. -/
theorem layer2 (h : Fin 8 → Fin 4096 → Fin 512 → EReal)
    (hL : Region2.layer (V4 m ρ c main_v2_0) (V4 m ρ c main_v2_1) (V4 m ρ c main_v5) (V4 m ρ c main_arg2) (V4 m ρ c main_v4) = h)
    (hγ1 : ∀ i, Laws.IsReal (γ1 i)) (b : Fin 8) (n : Fin 4096) (q : Fin 512) :
    Region3.layer (V6 m ρ c main_v6_0) (V6 m ρ c main_v17) (V6 m ρ c main_v20) (V6 m ρ c main_arg7) b n q
      = Spec.second W2 (Spec.act γ1 β1 h) b n q := by
  have eW : V6 m ρ c main_arg7 = W2 := (W6_args m ρ c main_arg7 (by decide)).trans h7
  have eH : ∀ b n q, (V6 m ρ c main_v6_0 : FVec Ideal S8x4096x512 .f32) (ix3 b n q) = h b n q := fun b n q => by
    subst hL
    exact congrFun ((W6_of m ρ c main_v6_0 (by decide)).trans ((W5_arr m ρ c 5).trans
      (Region2.arr5 (V4 m ρ) c _ _ _ _ _ rfl rfl rfl rfl rfl))) (ix3 b n q)
  have eS := (W5_arr m ρ c 6).trans (Region2.arr6 (V4 m ρ) c _ _ _ _ _ rfl rfl rfl rfl rfl)
  have eQ := (W5_arr m ρ c 7).trans (Region2.arr7 (V4 m ρ) c _ _ _ _ _ rfl rfl rfl rfl rfl)
  rw [hL] at eS eQ
  have es := fun q => HostValues.v17_at (W5 m ρ c) _ _ γ1 eS eQ ((W5_args m ρ c main_arg5 (by decide)).trans h5) q
  have eo := fun q => HostValues.v20_at (W5 m ρ c) _ _ γ1 β1 eS eQ ((W5_args m ρ c main_arg5 (by decide)).trans h5)
    ((W5_args m ρ c main_arg6 (by decide)).trans h6) q
  unfold Region3.layer Spec.second
  rw [eW]
  refine Finset.sum_congr rfl fun k _ => congrArg (· * W2 (ix2 k q)) ?_
  rw [eH]
  refine Eq.trans ?_ (scaled h (fun i => ∑ x : Fin 8 × Fin 4096, h x.1 x.2 (i 1))
    (fun i => ∑ x : Fin 8 × Fin 4096, h x.1 x.2 (i 1) * h x.1 x.2 (i 1)) γ1 β1 k rfl rfl (hγ1 _) b n)
  exact congrArg₂ (fun s o => max (h b n k * s + o) 0) (es k) (eo k)

include h8 h9 in
/-- The result, where the fourth call computed the layer `h`. -/
theorem layer3 (h : Fin 8 → Fin 4096 → Fin 512 → EReal)
    (hL : Region3.layer (V6 m ρ c main_v6_0) (V6 m ρ c main_v17) (V6 m ρ c main_v20) (V6 m ρ c main_arg7) = h)
    (hγ2 : ∀ i, Laws.IsReal (γ2 i)) (b : Fin 8) (n : Fin 4096) (q : Fin 512) :
    (V9 m ρ c main_v36 : FVec Ideal S8x4096x512 .f32) (ix3 b n q) = Spec.act γ2 β2 h b n q := by
  have eH : ∀ b n q, (V8 m ρ c main_v21_0 : FVec Ideal S8x4096x512 .f32) (ix3 b n q) = h b n q := fun b n q => by
    subst hL
    exact congrFun ((W8_of m ρ c main_v21_0 (by decide)).trans ((W7_arr m ρ c 4).trans
      (Region3.arr4 (V6 m ρ) c _ _ _ _ rfl rfl rfl rfl))) (ix3 b n q)
  have eS := (W7_arr m ρ c 5).trans (Region3.arr5 (V6 m ρ) c _ _ _ _ rfl rfl rfl rfl)
  have eQ := (W7_arr m ρ c 6).trans (Region3.arr6 (V6 m ρ) c _ _ _ _ rfl rfl rfl rfl)
  rw [hL] at eS eQ
  have es := HostValues.v32_at (W7 m ρ c) _ _ γ2 eS eQ ((W7_args m ρ c main_arg8 (by decide)).trans h8) q
  have eo := HostValues.v35_at (W7 m ρ c) _ _ γ2 β2 eS eQ ((W7_args m ρ c main_arg8 (by decide)).trans h8)
    ((W7_args m ρ c main_arg9 (by decide)).trans h9) q
  refine (congrFun ((W9_arr m ρ c 3).trans (Region4.arr3 (V8 m ρ) c _ _ _ rfl rfl rfl)) (ix3 b n q)).trans ?_
  refine Eq.trans ?_ (scaled h (fun i => ∑ x : Fin 8 × Fin 4096, h x.1 x.2 (i 1))
    (fun i => ∑ x : Fin 8 × Fin 4096, h x.1 x.2 (i 1) * h x.1 x.2 (i 1)) γ2 β2 q rfl rfl (hγ2 _) b n)
  have key : ∀ {x x' s s' o o' : EReal}, x = x' → s = s' → o = o' → max (x * s + o) 0 = max (x' * s' + o') 0 := by
    rintro _ _ _ _ _ _ rfl rfl rfl; rfl
  exact key (eH b n q) es eo

include h0 h1 h2 h3 h4 h5 h6 h7 h8 h9 in
/-- The kernel program's result: `Spec.result` at every point's three nearest positions. -/
theorem result (hx1 : ∀ i, Laws.IsReal (x1 i)) (hx2 : ∀ i, Laws.IsReal (x2 i))
    (hW1 : ∀ k q : Fin 512, Laws.IsReal (W1 (ix2 ⟨k.val, by omega⟩ q))) (hγ1 : ∀ i, Laws.IsReal (γ1 i))
    (hγ2 : ∀ i, Laws.IsReal (γ2 i)) :
    ∃ a : Fin 8 → Fin 4096 → Fin 3 → Fin 1024, (∀ b n, Top3.Nearest (Spec.dist x1 x2 b n) (a b n))
      ∧ ∀ b n q, (V9 m ρ c main_v36 : FVec Ideal S8x4096x512 .f32) (ix3 b n q)
          = Spec.result x1 x2 P1 P2 W1 γ1 β1 W2 γ2 β2 a b n q := by
  obtain ⟨a, ha, hi, hw⟩ := nearest m ρ c x1 x2 h0 h1 hx1 hx2
  refine ⟨a, ha, fun b n q => ?_⟩
  have hr : ∀ b n k, ∃ r : ℝ, 0 < r ∧ Spec.weight x1 x2 a b n k = (r : EReal) := fun b n k =>
    Laws.pos_weight Laws.ofBits_floor (fun l => isReal_dist x1 x2 hx1 hx2 b n (a b n l)) k
  have e1 := act_congr γ1 β1 _ _
    (fun b n q => layer1 m ρ c x1 x2 P1 P2 W1 h2 h3 h4 a hi hw (fun b n => (ha b n).injective) hr hW1 b n q)
  refine layer3 m ρ c γ2 β2 h8 h9 _ ?_ hγ2 b n q
  funext b n q
  exact (layer2 m ρ c γ1 β1 W2 h5 h6 h7 _ rfl hγ1 b n q).trans (by rw [e1])

end Cert.KernelValue

end
-- ==== Proof.RefNearest.lean ====
/- The reference's selection of the three nearest positions: the sorted positions, and the rows taken at them. -/
module

public import proofs.«01_k».proof.Proof.Gen.ReferenceIdeal.Run
public import proofs.«01_k».proof.Proof.Spec
public import proofs.«01_k».proof.Proof.Top3

@[expose] public section

set_option maxRecDepth 16384

noncomputable section

namespace Cert.RefValue

open Idealize.ShloMosaic Idealize.ShloMosaic.TcCoe Cert.ReferenceIdeal Cert.ReferenceIdeal.Value

/-- Replacing the last coordinate of an index. -/
theorem along_last (b : Fin 8) (n : Fin 4096) (p k : Fin 1024) :
    (ix3 b n p : S8x4096x1024.Idx).along (2 : Fin 3) k = ix3 b n k := by
  funext i
  match i with
  | ⟨0, _⟩ => rfl
  | ⟨1, _⟩ => rfl
  | ⟨2, _⟩ => rfl

/-- Negated distances compare the other way round. -/
theorem gt_neg (x y : EReal) : (FloatOps.cmpfTotal (F := Ideal) (φ := .f32) .gt (-x) (-y) == 1#1) = decide (x < y) := by
  show (BitVec.ofBool (decide (-y < -x)) == 1#1) = decide (x < y)
  rw [show decide (-y < -x) = decide (x < y) from decide_eq_decide.mpr EReal.neg_lt_neg_iff]
  cases decide (x < y) <;> rfl

variable (X : FVec Ideal S8x4096x1024 .f32) (d : Fin 1024 → EReal) (b : Fin 8) (n : Fin 4096)
  (hX : ∀ p, X (ix3 b n p) = - d p) (a : Fin 3 → Fin 1024) (ha : Top3.Nearest d a)

include hX ha in
/-- The first three places of the order that puts the greater of the negated distances first. -/
theorem order (l : Fin 3) :
    sortedFrom (fun k k' => FloatOps.cmpfTotal (F := Ideal) (φ := .f32) .gt (X ((ix3 b n (l.castLE (by norm_num) : Fin 1024) : S8x4096x1024.Idx).along (2 : Fin 3) k))
      (X ((ix3 b n (l.castLE (by norm_num) : Fin 1024) : S8x4096x1024.Idx).along (2 : Fin 3) k')) == 1#1) (l.castLE (by norm_num) : Fin 1024) = a l := by
  refine Top3.sortedFrom_nearest d a ha _ (fun p q => ?_) l
  rw [along_last, along_last, hX, hX]
  exact gt_neg _ _

/-- An index of the first three places among all. -/
theorem first_three (h : S8x4096x1024.Slices (fun _ => 0) S8x4096x3) (l : Fin 3) :
    (fun i => ⟨0 + ((ix3 b n l : S8x4096x3.Idx) (i.cast h.1.symm)).val,
        Nat.lt_of_lt_of_le (Nat.add_lt_add_left ((ix3 b n l : S8x4096x3.Idx) _).isLt _) (h.2 i)⟩ : S8x4096x1024.Idx)
      = ix3 b n (l.castLE (by norm_num)) := by
  funext i
  match i with
  | ⟨0, _⟩ => exact Fin.ext (Nat.zero_add _)
  | ⟨1, _⟩ => exact Fin.ext (Nat.zero_add _)
  | ⟨2, _⟩ => exact Fin.ext (Nat.zero_add _)

include hX ha in
/-- The greatest three of the negated distances are the nearest three positions, in order: the values, -/
theorem topK_fst (h : S8x4096x1024.Slices (fun _ => 0) S8x4096x3) (l : Fin 3) :
    (Host.topK S8x4096x3 2 (FloatOps.cmpfTotal .gt) X h).1 (ix3 b n l) = - d (a l) := by
  unfold Host.topK extractStridedSlice
  dsimp only
  rw [first_three b n h l]
  show X ((ix3 b n (l.castLE (by norm_num) : Fin 1024) : S8x4096x1024.Idx).along (2 : Fin 3) (sortedFrom _ _)) = _
  rw [← hX]
  exact congrArg X ((along_last b n _ _).trans (congrArg (fun p => ix3 b n p) (order X d b n hX a ha l)))

include hX ha in
/-- and the positions. -/
theorem topK_snd (h : S8x4096x1024.Slices (fun _ => 0) S8x4096x3) (l : Fin 3) :
    (Host.topK S8x4096x3 2 (FloatOps.cmpfTotal .gt) X h).2 (ix3 b n l) = BitVec.ofNat 32 (a l).val := by
  unfold Host.topK extractStridedSlice
  dsimp only
  rw [first_three b n h l]
  show BitVec.ofNat 32 (((ix3 b n (l.castLE (by norm_num) : Fin 1024) : S8x4096x1024.Idx).along (2 : Fin 3) (sortedFrom _ _)) 2).val = _
  exact (congrArg (fun I : S8x4096x1024.Idx => BitVec.ofNat 32 (I 2).val) (along_last b n _ _)).trans
    (congrArg (fun p : Fin 1024 => BitVec.ofNat 32 p.val) (order X d b n hX a ha l))

/-- A small number read back as a signed integer. -/
theorem toInt_small (p : Nat) (hp : p < 2147483648) : (BitVec.ofNat 32 p).toInt = (p : Int) := by
  rw [BitVec.toInt_eq_toNat_of_lt (by rw [BitVec.toNat_ofNat]; omega), BitVec.toNat_ofNat]
  omega

/-- The rows taken: row `I` of the batch, where `I` is a position's number. -/
theorem gather_at (T : FVec Ideal S8x1024x512 .f32) (I : IVec S8x4096x3x1 32) (l : Fin 3) (k : Fin 512) (p : Fin 1024)
    (hI : I (ix4 b n l 0) = BitVec.ofNat 32 p.val) :
    Host.gather gather_S8x1024x512_S8x4096x3x1_S8x4096x3x512_3_1_0_0_1_3_11512 T I (ix4 b n l k) = T (ix3 b p k) := by
  unfold Host.gather
  congr 1
  funext i
  refine Fin.ext ?_
  show GatherDims.start _ _ I i + GatherDims.batchCoord _ _ i + GatherDims.offCoord _ _ i = _
  have hi : i = 0 ∨ i = 1 ∨ i = 2 := by
    match i with
    | ⟨0, _⟩ => exact Or.inl rfl
    | ⟨1, _⟩ => exact Or.inr (Or.inl rfl)
    | ⟨2, _⟩ => exact Or.inr (Or.inr rfl)
  rcases hi with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin S8x1024x512.rank) ∈ gather_S8x1024x512_S8x4096x3x1_S8x4096x3x512_3_1_0_0_1_3_11512.operandBatchingDims from List.mem_singleton.mpr rfl)]
    exact (Nat.add_zero _).trans (Nat.zero_add _)
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    unfold GatherDims.start
    rw [dif_pos (show (1 : Fin S8x1024x512.rank) ∈ gather_S8x1024x512_S8x4096x3x1_S8x4096x3x512_3_1_0_0_1_3_11512.startIndexMap from List.mem_singleton.mpr rfl)]
    have hs : ∀ c, gather_S8x1024x512_S8x4096x3x1_S8x4096x3x512_3_1_0_0_1_3_11512.siIdx (ix4 b n l k) c = ix4 b n l 0 := by
      intro c
      funext e
      match e with
      | ⟨0, _⟩ => rfl
      | ⟨1, _⟩ => rfl
      | ⟨2, _⟩ => rfl
      | ⟨3, _⟩ => exact Fin.ext (Nat.lt_one_iff.mp c.isLt)
    rw [hs, hI, toInt_small p.val (by have := p.isLt; omega)]
    show min ((p.val : Int).toNat) 1023 + 0 + 0 = p.val
    have := p.isLt
    omega
  · rw [GatherDims.batchCoord_eq_zero _ _ _ (fun h => absurd (List.mem_singleton.mp h) (by decide))]
    unfold GatherDims.start GatherDims.offCoord
    rw [dif_neg (show (2 : Fin S8x1024x512.rank) ∉ gather_S8x1024x512_S8x4096x3x1_S8x4096x3x512_3_1_0_0_1_3_11512.startIndexMap from
      fun h => absurd (List.mem_singleton.mp h) (by decide)), dif_pos ((GatherDims.mem_sKept _ _).mpr
      ⟨fun h => absurd (List.mem_singleton.mp h) (by decide), fun h => absurd (List.mem_singleton.mp h) (by decide)⟩)]
    exact Nat.zero_add _

end Cert.RefValue

end
-- ==== Proof.RefFirst.lean ====
/- The reference's first layer before its normalisation: the weighted rows of the three nearest positions, put
   beside the point's own features, through the first matrix. -/
module

public import proofs.«01_k».proof.Proof.RefNearest

@[expose] public section

set_option maxRecDepth 16384

noncomputable section

namespace Cert.RefValue

open Idealize.ShloMosaic Idealize.ShloMosaic.TcCoe Cert.ReferenceIdeal Cert.ReferenceIdeal.Value

/-- Words of one bit that are all one stay one under "and". -/
theorem fold_one {ι : Type} (op : BitVec 1 → BitVec 1 → BitVec 1) [Std.Commutative op] [Std.Associative op] (hop : op 1#1 1#1 = 1#1)
    (s : Finset ι) (f : ι → BitVec 1) (h : ∀ x, f x = 1#1) : s.fold op (1#1) f = 1#1 := by
  classical
  induction s using Finset.induction_on with
  | empty => rfl
  | insert x s hx ih => rw [Finset.fold_insert hx, ih, h, hop]

/-- An index of four coordinates, the last of size one. -/
theorem eta4 (x : S8x4096x3x1.Idx) : x = ix4 (x 0) (x 1) (x 2) 0 := by
  funext i
  match i with
  | ⟨0, _⟩ => rfl
  | ⟨1, _⟩ => rfl
  | ⟨2, _⟩ => rfl
  | ⟨3, _⟩ => exact Fin.ext (Nat.lt_one_iff.mp (x 3).isLt)

/-- The number of a position, as a word, is not below zero. -/
theorem wrap_word (p : Fin 1024) (y : BitVec 32) :
    Scalar.select (IntOp.cmpi .slt (BitVec.ofNat 32 p.val) 0#32) y (BitVec.ofNat 32 p.val) = BitVec.ofNat 32 p.val := by
  have h : (BitVec.ofNat 32 p.val).slt 0#32 = false := by
    rw [BitVec.slt_eq_decide, toInt_small p.val (by have := p.isLt; omega)]
    exact decide_eq_false (by show ¬ ((p.val : Int) < 0); omega)
  unfold IntOp.cmpi
  dsimp only
  rw [h]
  rfl

/-- The number of a position, as a word, is a number of a row of the table. -/
theorem inside_word (w : BitVec 32) (p : Fin 1024) (hw : w = BitVec.ofNat 32 p.val) :
    IntOp.andi (IntOp.cmpi .sge w 0#32) (IntOp.cmpi .sle w 1023#32) = 1#1 := by
  subst hw
  have hp := p.isLt
  have h0 : (0#32).sle (BitVec.ofNat 32 p.val) = true := by
    rw [BitVec.sle_eq_decide, toInt_small p.val (by omega)]
    exact decide_eq_true (by show (0 : Int) ≤ (p.val : Int); omega)
  have h1 : (BitVec.ofNat 32 p.val).sle 1023#32 = true := by
    rw [BitVec.sle_eq_decide, toInt_small p.val (by omega)]
    exact decide_eq_true (by show (p.val : Int) ≤ 1023; omega)
  unfold IntOp.cmpi
  dsimp only
  rw [h0, h1]
  rfl

/-- A row taken under the test that every position number lies in the table. -/
theorem taken (T : FVec Ideal S8x1024x512 .f32) (I : IVec S8x4096x3x1 32) (a : Fin 8 → Fin 4096 → Fin 3 → Fin 1024)
    (hI : ∀ b n l, I (ix4 b n l 0) = BitVec.ofNat 32 (a b n l).val) (s : Finset S8x4096x3x1.Idx) (z : EReal)
    (b : Fin 8) (n : Fin 4096) (l : Fin 3) (k : Fin 512) :
    Scalar.select (Finset.fold IntOp.andi (1#1) (fun x => IntOp.andi (IntOp.cmpi .sge (I x) 0#32) (IntOp.cmpi .sle (I x) 1023#32)) s)
      (Host.gather gather_S8x1024x512_S8x4096x3x1_S8x4096x3x512_3_1_0_0_1_3_11512 T I (ix4 b n l k)) z = T (ix3 b (a b n l) k) := by
  rw [fold_one IntOp.andi rfl s _ (fun x => inside_word _ _ ((congrArg I (eta4 x)).trans (hI _ _ _)))]
  exact gather_at b n T I l k (a b n l) (hI b n l)

variable (V : Valuation τ sig (Elt Ideal)) (a : Fin 8 → Fin 4096 → Fin 3 → Fin 1024)
  (ha : ∀ b n, Top3.Nearest (Spec.dist (V (Proc.devRef .tc main_arg0)) (V (Proc.devRef .tc main_arg1)) b n) (a b n))

/-- The negated distances. -/
theorem v13_at (b : Fin 8) (n : Fin 4096) (p : Fin 1024) :
    (res_main_v13 V : FVec Ideal S8x4096x1024 .f32) (ix3 b n p)
      = (- Spec.dist (V (Proc.devRef .tc main_arg0)) (V (Proc.devRef .tc main_arg1)) b n p : EReal) := by
  unfold res_main_v13 Spec.dist
  pointwise

include ha in
/-- The nearest distances, kept above the floor. -/
theorem v16_at (b : Fin 8) (n : Fin 4096) (l : Fin 3) :
    (res_main_v16 V : FVec Ideal S8x4096x3 .f32) (ix3 b n l)
      = (max (Spec.dist (V (Proc.devRef .tc main_arg0)) (V (Proc.devRef .tc main_arg1)) b n (a b n l)) Spec.floor : EReal) := by
  unfold res_main_v16
  pointwise
  refine congrArg (fun z : EReal => max z Spec.floor) ?_
  exact (congrArg Neg.neg (topK_fst (res_main_v13 V) _ b n (v13_at V b n) (a b n) (ha b n) _ l)).trans (neg_neg _)

include ha in
/-- The position numbers the rows are taken at. -/
theorem call0_at (b : Fin 8) (n : Fin 4096) (l : Fin 3) :
    (res_main_call0_v4 V : IVec S8x4096x3x1 32) (ix4 b n l 0) = BitVec.ofNat 32 (a b n l).val := by
  unfold res_main_call0_v4 res_main_v28
  pointwise
  rw [topK_snd (res_main_v13 V) _ b n (v13_at V b n) (a b n) (ha b n) _ l]
  exact wrap_word _ _

include ha in
/-- The first layer, before normalisation. -/
theorem v35_at (b : Fin 8) (n : Fin 4096) (q : Fin 512) :
    (res_main_v35 V : FVec Ideal S8x4096x512 .f32) (ix3 b n q)
      = Spec.first (V (Proc.devRef .tc main_arg0)) (V (Proc.devRef .tc main_arg1)) (V (Proc.devRef .tc main_arg2))
          (V (Proc.devRef .tc main_arg3)) (V (Proc.devRef .tc main_arg4)) a b n q := by
  unfold res_main_v35
  pointwise
  unfold Spec.first Spec.mixed Spec.weight Laws.weight
  refine congrArg₂ (fun x y : EReal => x + y) (Finset.sum_congr rfl fun k _ => congrArg₂ (fun x y : EReal => x * y)
    (Finset.sum_congr rfl fun l _ => congrArg₂ (fun x y : EReal => x * y) ?_ ?_) rfl) rfl
  · refine (taken _ (res_main_call0_v4 V) a (call0_at V a ha) _ _ b n l k).trans ?_
    pointwise
  · simp only [v16_at V a ha]

end Cert.RefValue

end
-- ==== Proof.RefValue.lean ====
/- The reference's result, entry by entry: two layers, each a product, a normalisation over all the points and the
   positive part. -/
module

public import proofs.«01_k».proof.Proof.RefFirst

@[expose] public section

set_option maxRecDepth 16384

noncomputable section

namespace Cert.RefValue

open Idealize.ShloMosaic Idealize.ShloMosaic.TcCoe Cert.ReferenceIdeal Cert.ReferenceIdeal.Value

/-- A sum over a channel's entries is a sum over the points. -/
theorem colsum (X : FVec Ideal S8x4096x512 .f32) (q : Fin 512) :
    (Ideal.hostReduceAdd Gen.reducesTo_S8x4096x512_S512_d0_1 X 0 (ix1 q) : EReal)
      = ∑ x : Fin 8 × Fin 4096, (X (ix3 x.1 x.2 q) : EReal) := by
  unfold Ideal.hostReduceAdd
  rw [zero_add]
  refine (Finset.sum_nbij' (fun x : Fin 8 × Fin 4096 => (ix3 x.1 x.2 q : S8x4096x512.Idx)) (fun i : S8x4096x512.Idx => ((i 0, i 1) : Fin 8 × Fin 4096))
    ?_ ?_ ?_ ?_ ?_).symm
  · intro x _
    rw [Finset.mem_filter]
    refine ⟨Finset.mem_univ _, ?_⟩
    funext e
    match e with
    | ⟨0, _⟩ => rfl
  · intro i _
    exact Finset.mem_univ _
  · intro x _
    rfl
  · intro i hi
    rw [Finset.mem_filter] at hi
    have h2 : i 2 = q := congrFun hi.2 (0 : Fin 1)
    funext e
    match e with
    | ⟨0, _⟩ => rfl
    | ⟨1, _⟩ => rfl
    | ⟨2, _⟩ => exact h2.symm
  · intro x _
    rfl

/-- The number of the points, as the reference counts them. -/
theorem count : (Ideal.ofBits .f32 0x47000000#32 - (FloatOps.sitofp (F := Ideal) .f32 0#32 : EReal) : EReal) = ((32768 : ℝ) : EReal) := by
  show Ideal.ofBits .f32 0x47000000#32 - (((0#32).toInt : ℝ) : EReal) = _
  rw [Laws.ofBits_count, show (0#32).toInt = 0 from rfl, Int.cast_zero, EReal.coe_zero, sub_zero]

/-- An entry's difference from its channel's mean. -/
def less (X : FVec Ideal S8x4096x512 .f32) (b : Fin 8) (n : Fin 4096) (q : Fin 512) : EReal := X (ix3 b n q)
      - Ideal.div (Ideal.hostReduceAdd Gen.reducesTo_S8x4096x512_S512_d0_1 X 0 (ix1 q)) (Ideal.ofBits .f32 0x47000000#32)

/-- An array's entries as a function of the three coordinates. -/
def entry (X : FVec Ideal S8x4096x512 .f32) (b : Fin 8) (n : Fin 4096) (q : Fin 512) : EReal := X (ix3 b n q)

/-- One normalisation, with the positive part, from the array of the differences from the mean. -/
theorem act_at (X D : FVec Ideal S8x4096x512 .f32)
    (hD : ∀ b n q, D (ix3 b n q) = less X b n q)
    (γ β : FVec Ideal S512 .f32) (c z : EReal) (hc : c = ((32768 : ℝ) : EReal)) [Decidable (0 < c)] (b : Fin 8) (n : Fin 4096) (q : Fin 512) :
    max (Ideal.div (γ (ix1 q) * (X (ix3 b n q)
          - Ideal.div (Ideal.hostReduceAdd Gen.reducesTo_S8x4096x512_S512_d0_1 X 0 (ix1 q)) (Ideal.ofBits .f32 0x47000000#32)))
        (Ideal.sqrt ((if 0 < c then Ideal.div (Ideal.hostReduceAdd Gen.reducesTo_S8x4096x512_S512_d0_1 (mulf D D) 0 (ix1 q)) c else z)
          + Ideal.ofBits .f32 0x3A83126F#32)) + β (ix1 q)) 0
      = Spec.act γ β (entry X) b n q := by
  have hpos : 0 < c := by
    rw [hc]
    exact_mod_cast (by norm_num : (0 : ℝ) < 32768)
  have hm : ∀ x : Fin 8 × Fin 4096, mulf D D (ix3 x.1 x.2 q) = D (ix3 x.1 x.2 q) * D (ix3 x.1 x.2 q) := fun _ => rfl
  rw [if_pos hpos, colsum, colsum]
  simp only [hm, hD, less, colsum, Laws.ofBits_count, hc]
  rfl

variable (V : Valuation τ sig (Elt Ideal))

/-- The count, in the first layer's variance. -/
theorem call1_v8_at : (res_main_call1_v8 V : FVec Ideal S_ .f32) ix0 = ((32768 : ℝ) : EReal) := by
  unfold res_main_call1_v8
  pointwise
  exact count

/-- The differences from the mean, in the first layer's variance. -/
theorem call1_v5_at (b : Fin 8) (n : Fin 4096) (q : Fin 512) :
    (res_main_call1_v5 V : FVec Ideal S8x4096x512 .f32) (ix3 b n q) = less (res_main_v35 V) b n q := by
  unfold res_main_call1_v5 less
  pointwise

/-- The second layer before its normalisation, from the first before its own. -/
theorem v55_at (b : Fin 8) (n : Fin 4096) (q : Fin 512) :
    entry (res_main_v55 V) b n q
      = Spec.second (V (Proc.devRef .tc main_arg7)) (Spec.act (V (Proc.devRef .tc main_arg5)) (V (Proc.devRef .tc main_arg6))
          (entry (res_main_v35 V))) b n q := by
  unfold entry res_main_v55 Spec.second
  pointwise
  refine Finset.sum_congr rfl fun k _ => congrArg₂ (fun x y : EReal => x * y) ?_ rfl
  exact act_at (res_main_v35 V) (res_main_call1_v5 V) (call1_v5_at V) _ _ _ _ (call1_v8_at V) b n k

/-- The count, in the second layer's variance. -/
theorem call3_v8_at : (res_main_call3_v8 V : FVec Ideal S_ .f32) ix0 = ((32768 : ℝ) : EReal) := by
  unfold res_main_call3_v8
  pointwise
  exact count

/-- The differences from the mean, in the second layer's variance. -/
theorem call3_v5_at (b : Fin 8) (n : Fin 4096) (q : Fin 512) :
    (res_main_call3_v5 V : FVec Ideal S8x4096x512 .f32) (ix3 b n q) = less (res_main_v55 V) b n q := by
  unfold res_main_call3_v5 less
  pointwise

/-- The result's entries, from the second layer before its normalisation. -/
theorem v74_at (b : Fin 8) (n : Fin 4096) (q : Fin 512) :
    entry (val2 V (Proc.devRef .tc main_v74)) b n q
      = Spec.act (V (Proc.devRef .tc main_arg8)) (V (Proc.devRef .tc main_arg9)) (entry (res_main_v55 V)) b n q := by
  unfold entry
  rw [val2_main_v74]
  pointwise
  exact act_at (res_main_v55 V) (res_main_call3_v5 V) (call3_v5_at V) _ _ _ _ (call3_v8_at V) b n q

/-- The reference's result is the specified one, for the three nearest positions. -/
theorem result (a : Fin 8 → Fin 4096 → Fin 3 → Fin 1024)
    (ha : ∀ b n, Top3.Nearest (Spec.dist (V (Proc.devRef .tc main_arg0)) (V (Proc.devRef .tc main_arg1)) b n) (a b n)) (b : Fin 8) (n : Fin 4096) (q : Fin 512) :
    entry (val2 V (Proc.devRef .tc main_v74)) b n q
      = Spec.result (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6))
          (V (Proc.devRef .tc main_arg7)) (V (Proc.devRef .tc main_arg8)) (V (Proc.devRef .tc main_arg9)) a b n q := by
  have h1 : entry (res_main_v35 V) = Spec.first (V (Proc.devRef .tc main_arg0)) (V (Proc.devRef .tc main_arg1)) (V (Proc.devRef .tc main_arg2))
      (V (Proc.devRef .tc main_arg3)) (V (Proc.devRef .tc main_arg4)) a := by
    funext b n q
    exact v35_at V a ha b n q
  have h2 : entry (res_main_v55 V) = Spec.second (V (Proc.devRef .tc main_arg7)) (Spec.act (V (Proc.devRef .tc main_arg5))
      (V (Proc.devRef .tc main_arg6)) (entry (res_main_v35 V))) := by
    funext b n q
    exact v55_at V b n q
  rw [v74_at, h2, h1]
  rfl

end Cert.RefValue

end
-- ==== Proof.Algebraic.lean ====
/- The kernel program and the reference, from equal arguments, end with equal results. -/
module

public import proofs.«01_k».proof.Defs
public import proofs.«01_k».proof.Proof.Finite
public import proofs.«01_k».proof.Proof.KernelRun
public import proofs.«01_k».proof.Proof.KernelValue
public import proofs.«01_k».proof.Proof.RefValue

@[expose] public section

set_option maxRecDepth 16384

noncomputable section

namespace Cert.Algebraic

open Idealize.ShloMosaic Idealize.ShloMosaic.TcCoe

/-- On one device: the reference's result array is the kernel program's. -/
theorem value (m : (ℓ : Loc Cert.KernelIdeal.nD Cert.KernelIdeal.τ Cert.KernelIdeal.sig) → Buf (Elt Ideal) ℓ)
    (g : Dev Cert.KernelIdeal.nD → PrngReg) (hm : Cert.Pre_KernelIdeal_finite m) (c : Dev Cert.KernelIdeal.nD)
    (V : Valuation Cert.ReferenceIdeal.τ Cert.ReferenceIdeal.sig (Elt Ideal))
    (h0 : V (Proc.devRef .tc Cert.ReferenceIdeal.main_arg0) = m ((c.tc : Thread Cert.KernelIdeal.nD Cert.KernelIdeal.τ).loc Cert.KernelIdeal.main_arg0))
    (h1 : V (Proc.devRef .tc Cert.ReferenceIdeal.main_arg1) = m ((c.tc : Thread Cert.KernelIdeal.nD Cert.KernelIdeal.τ).loc Cert.KernelIdeal.main_arg1))
    (h2 : V (Proc.devRef .tc Cert.ReferenceIdeal.main_arg2) = m ((c.tc : Thread Cert.KernelIdeal.nD Cert.KernelIdeal.τ).loc Cert.KernelIdeal.main_arg2))
    (h3 : V (Proc.devRef .tc Cert.ReferenceIdeal.main_arg3) = m ((c.tc : Thread Cert.KernelIdeal.nD Cert.KernelIdeal.τ).loc Cert.KernelIdeal.main_arg3))
    (h4 : V (Proc.devRef .tc Cert.ReferenceIdeal.main_arg4) = m ((c.tc : Thread Cert.KernelIdeal.nD Cert.KernelIdeal.τ).loc Cert.KernelIdeal.main_arg4))
    (h5 : V (Proc.devRef .tc Cert.ReferenceIdeal.main_arg5) = m ((c.tc : Thread Cert.KernelIdeal.nD Cert.KernelIdeal.τ).loc Cert.KernelIdeal.main_arg5))
    (h6 : V (Proc.devRef .tc Cert.ReferenceIdeal.main_arg6) = m ((c.tc : Thread Cert.KernelIdeal.nD Cert.KernelIdeal.τ).loc Cert.KernelIdeal.main_arg6))
    (h7 : V (Proc.devRef .tc Cert.ReferenceIdeal.main_arg7) = m ((c.tc : Thread Cert.KernelIdeal.nD Cert.KernelIdeal.τ).loc Cert.KernelIdeal.main_arg7))
    (h8 : V (Proc.devRef .tc Cert.ReferenceIdeal.main_arg8) = m ((c.tc : Thread Cert.KernelIdeal.nD Cert.KernelIdeal.τ).loc Cert.KernelIdeal.main_arg8))
    (h9 : V (Proc.devRef .tc Cert.ReferenceIdeal.main_arg9) = m ((c.tc : Thread Cert.KernelIdeal.nD Cert.KernelIdeal.τ).loc Cert.KernelIdeal.main_arg9)) :
    Cert.ReferenceIdeal.Value.val2 V (Proc.devRef .tc Cert.ReferenceIdeal.main_v74) = Cert.KernelIdeal.Gen.V9 m g c Cert.KernelIdeal.main_v36 := by
  obtain ⟨p0, p1, p4, p5, p8⟩ := hm c
  obtain ⟨a, ha, hv⟩ := KernelValue.result m g c _ _ _ _ _ _ _ _ _ _ h0.symm h1.symm h2.symm h3.symm h4.symm h5.symm h6.symm h7.symm
    h8.symm h9.symm
    (fun i => h0 ▸ Finite.real0 _ _ _ _ _ _ _ _ _ _ p0 i) (fun i => h1 ▸ Finite.real1 _ _ _ _ _ _ _ _ _ _ p1 i)
    (fun k q => h4 ▸ Finite.real4 _ _ _ _ _ _ _ _ _ _ p4 k q)
    (fun i => h5 ▸ Finite.real5 _ _ _ _ _ _ _ _ _ _ p5 i) (fun i => h8 ▸ Finite.real8 _ _ _ _ _ _ _ _ _ _ p8 i)
  funext i
  obtain ⟨b, n, q, rfl⟩ : ∃ (b : Fin 8) (n : Fin 4096) (q : Fin 512), i = (ix3 b n q : Cert.ReferenceIdeal.S8x4096x512.Idx) :=
    ⟨i 0, i 1, i 2, by
      funext e
      match e with
      | ⟨0, _⟩ => rfl
      | ⟨1, _⟩ => rfl
      | ⟨2, _⟩ => rfl⟩
  exact (RefValue.result V a ha b n q).trans (hv b n q).symm

/-- The two programs compute the same results. -/
theorem algebraic : Cert.algebraic_KernelIdeal_ReferenceIdeal_pre_finite := by
  intro m g m' g' hm h
  refine ⟨fun c => Cert.KernelIdeal.Gen.V9 m g c Cert.KernelIdeal.main_v36, KernelRun.run m g, ?_⟩
  refine (θ_run Cert.ReferenceIdeal.defs _ _).mono (fun r hr c => ⟨(hr c).1.trans ?_, (hr c).2⟩) (Cert.ReferenceIdeal.Value.run (F := Ideal) m' g')
  obtain ⟨h0, h1, h2, h3, h4, h5, h6, h7, h8, h9⟩ := h c
  exact (Cert.ReferenceIdeal.Value.val2_main_v74 _).symm.trans (value m g hm c _ h0 h1 h2 h3 h4 h5 h6 h7 h8 h9)

end Cert.Algebraic

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The kernel program runs, leaves its arguments and ends with every semaphore at zero. -/
theorem frame_kernel : Cert.quiescent_Kernel := fun m g _ => Cert.Kernel.Gen.frame m g

/-- So does its idealization. -/
theorem frame_ideal : Cert.quiescent_KernelIdeal := fun m g _ => Cert.KernelIdeal.Gen.frame m g

/-- And from the memories of the precondition. -/
theorem frame_ideal_finite : Cert.quiescent_KernelIdeal_pre_finite := fun m g _ => Cert.KernelIdeal.Gen.frame m g

/-- The reference runs, leaves its arguments and ends with every semaphore at zero. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- And from the memories of the precondition. -/
theorem frame_reference_finite : Cert.quiescent_ReferenceIdeal_pre_finite := fun m g _ => frame_reference m g trivial

/-- The idealization names one literal: the large mask value is the infinity. -/
theorem preserves : Cert.preserves_Kernel_KernelIdeal :=
  IdealRules.named_const.statement Cert.KernelIdeal.κ "big" .f32 0x7149F2CA#32 ⊤ rfl

/-- Every claim. -/
theorem claim : Cert.Claim :=
  ⟨Cert.Kernel.Gen.facts, Cert.KernelIdeal.Gen.facts, Cert.ReferenceIdeal.Gen.facts, Cert.Finite.facts,
    frame_kernel, frame_ideal, frame_ideal_finite, frame_reference, frame_reference_finite, preserves, Algebraic.algebraic⟩

end Cert.Proof

end
